-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_token_is_a_boundary [hPre_every_token_is_a_boundary : Cert.Pre_every_token_is_a_boundary.Facts] (m : (ℓ : Loc Cert.KernelIdeal.nD Cert.KernelIdeal.τ Cert.KernelIdeal.sig) → Buf (Elt Ideal) ℓ) : Prop :=
  ∀ c : Dev Cert.KernelIdeal.nD,
    (Cert.Pre_every_token_is_a_boundary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_token_is_a_boundary [hPre_every_token_is_a_boundary : Cert.Pre_every_token_is_a_boundary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_token_is_a_boundary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_every_token_is_a_boundary [hKernelIdeal : Cert.KernelIdeal.Facts] [hPre_every_token_is_a_boundary : Cert.Pre_every_token_is_a_boundary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_token_is_a_boundary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_every_token_is_a_boundary [hReferenceIdeal : Cert.ReferenceIdeal.Facts] [hPre_every_token_is_a_boundary : Cert.Pre_every_token_is_a_boundary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_token_is_a_boundary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_every_token_is_a_boundary [hKernelIdeal : Cert.KernelIdeal.Facts] [hReferenceIdeal : Cert.ReferenceIdeal.Facts] [hPre_every_token_is_a_boundary : Cert.Pre_every_token_is_a_boundary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_token_is_a_boundary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_every_token_is_a_boundary : Cert.Pre_every_token_is_a_boundary.Facts),
    quiescent_Kernel (hKernel := hKernel)
    ∧ quiescent_KernelIdeal (hKernelIdeal := hKernelIdeal)
    ∧ quiescent_KernelIdeal_pre_every_token_is_a_boundary (hKernelIdeal := hKernelIdeal) (hPre_every_token_is_a_boundary := hPre_every_token_is_a_boundary)
    ∧ quiescent_ReferenceIdeal (hReferenceIdeal := hReferenceIdeal)
    ∧ quiescent_ReferenceIdeal_pre_every_token_is_a_boundary (hReferenceIdeal := hReferenceIdeal) (hPre_every_token_is_a_boundary := hPre_every_token_is_a_boundary)
    ∧ preserves_Kernel_KernelIdeal
    ∧ algebraic_KernelIdeal_ReferenceIdeal_pre_every_token_is_a_boundary (hKernelIdeal := hKernelIdeal) (hReferenceIdeal := hReferenceIdeal) (hPre_every_token_is_a_boundary := hPre_every_token_is_a_boundary)
-- ==== Pre_every_token_is_a_boundary.lean ====
abbrev S8x4096x1024 : Shape := ⟨3, ![8, 4096, 1024]⟩
abbrev S8x4096 : Shape := ⟨2, ![8, 4096]⟩
abbrev S8x4096x2 : Shape := ⟨3, ![8, 4096, 2]⟩

class Facts : Prop where

variable [Facts]

def fn {F : FTy → Type} [FloatOps F] (main_arg0 : FVec F S8x4096x1024 .f32) (main_arg1 : IVec S8x4096 1) (main_arg2 : FVec F S8x4096x2 .f32) : IVec S8x4096 1 :=
  main_arg1
-- ==== Kernel.lean ====
abbrev S8x4096x1024 : Shape := ⟨3, ![8, 4096, 1024]⟩
abbrev S8x4096 : Shape := ⟨2, ![8, 4096]⟩
abbrev S8x4096x2 : Shape := ⟨3, ![8, 4096, 2]⟩
abbrev S1x256x2 : Shape := ⟨3, ![1, 256, 2]⟩
abbrev S1x256x1024 : Shape := ⟨3, ![1, 256, 1024]⟩
abbrev S1x1024 : Shape := ⟨2, ![1, 1024]⟩
abbrev S1x256x1 : Shape := ⟨3, ![1, 256, 1]⟩
abbrev S256x1 : Shape := ⟨2, ![256, 1]⟩
abbrev S256x256 : Shape := ⟨2, ![256, 256]⟩
abbrev S1x256 : Shape := ⟨2, ![1, 256]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i1⟩
  | .hbm, ⟨2, _⟩ => ⟨S8x4096x2, .f32⟩
  | .hbm, ⟨3, _⟩ => ⟨S8x4096x1024, .f32⟩
  | .local _ .vmem, ⟨0, _⟩ => ⟨S1x256x2, .f32⟩
  | .local _ .vmem, ⟨1, _⟩ => ⟨S1x256x2, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x4096x1024 : Shape := ⟨3, ![8, 4096, 1024]⟩
abbrev S8x4096 : Shape := ⟨2, ![8, 4096]⟩
abbrev S8x4096x2 : Shape := ⟨3, ![8, 4096, 2]⟩
abbrev S8x4096x1 : Shape := ⟨3, ![8, 4096, 1]⟩
abbrev S_ : Shape := ⟨0, ![]⟩
abbrev S4096 : Shape := ⟨1, ![4096]⟩
abbrev S1x4096 : Shape := ⟨2, ![1, 4096]⟩
abbrev S1 : Shape := ⟨1, ![1]⟩
abbrev S1x1x1 : Shape := ⟨3, ![1, 1, 1]⟩
abbrev S8x1024 : Shape := ⟨2, ![8, 1024]⟩
abbrev S4096x8 : Shape := ⟨2, ![4096, 8]⟩
abbrev S4096x8x1024 : Shape := ⟨3, ![4096, 8, 1024]⟩
abbrev S1x8 : Shape := ⟨2, ![1, 8]⟩
abbrev S8 : Shape := ⟨1, ![8]⟩
abbrev S1x8x1024 : Shape := ⟨3, ![1, 8, 1024]⟩
abbrev S8x1 : Shape := ⟨2, ![8, 1]⟩
abbrev S8x4096x1024x1 : Shape := ⟨4, ![8, 4096, 1024, 1]⟩
abbrev S1x1x1x1 : Shape := ⟨4, ![1, 1, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i1⟩
  | .hbm, ⟨2, _⟩ => ⟨S8x4096x2, .f32⟩
  | .hbm, ⟨3, _⟩ => ⟨S8x4096x1, .f32⟩
  | .hbm, ⟨4, _⟩ => ⟨S8x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S4096, .i32⟩
  | .hbm, ⟨14, _⟩ => ⟨S1x4096, .i32⟩
  | .hbm, ⟨15, _⟩ => ⟨S8x4096, .i1⟩
  | .hbm, ⟨16, _⟩ => ⟨S8x4096, .i32⟩
  | .hbm, ⟨17, _⟩ => ⟨S_, .i32⟩
  | .hbm, ⟨18, _⟩ => ⟨S8x4096, .i32⟩
  | .hbm, ⟨19, _⟩ => ⟨S8x4096, .i32⟩
  | .hbm, ⟨20, _⟩ => ⟨S8x4096, .i32⟩
  | .hbm, ⟨21, _⟩ => ⟨S8x4096, .i32⟩
  | .hbm, ⟨22, _⟩ => ⟨S8x4096, .i32⟩
  | .hbm, ⟨23, _⟩ => ⟨S8x4096, .i32⟩
  | .hbm, ⟨24, _⟩ => ⟨S8x4096, .i32⟩
  | .hbm, ⟨25, _⟩ => ⟨S_, .i32⟩
  | .hbm, ⟨26, _⟩ => ⟨S8x4096, .i32⟩
  | .hbm, ⟨27, _⟩ => ⟨S8x4096, .i1⟩
  | .hbm, ⟨28, _⟩ => ⟨S_, .i32⟩
  | .hbm, ⟨29, _⟩ => ⟨S8x4096, .i32⟩
  | .hbm, ⟨30, _⟩ => ⟨S8x4096, .i32⟩
  | .hbm, ⟨31, _⟩ => ⟨S8x4096, .i32⟩
  | .hbm, ⟨32, _⟩ => ⟨S8x4096x1, .i32⟩
  | .hbm, ⟨33, _⟩ => ⟨S1, .i32⟩
  | .hbm, ⟨34, _⟩ => ⟨S_, .i32⟩
  | .hbm, ⟨35, _⟩ => ⟨S8x4096x1, .i32⟩
  | .hbm, ⟨36, _⟩ => ⟨S8x4096x1, .i1⟩
  | .hbm, ⟨37, _⟩ => ⟨S1x1x1, .i32⟩
  | .hbm, ⟨38, _⟩ => ⟨S8x4096x1, .i32⟩
  | .hbm, ⟨39, _⟩ => ⟨S8x4096x1, .i1⟩
  | .hbm, ⟨40, _⟩ => ⟨S8x4096x1, .i1⟩
  | .hbm, ⟨41, _⟩ => ⟨S_, .i1⟩
  | .hbm, ⟨42, _⟩ => ⟨S8x4096, .i1⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .i32⟩
  | .hbm, ⟨48, _⟩ => ⟨S_, .i32⟩
  | .hbm, ⟨49, _⟩ => ⟨S_, .i32⟩
  | .hbm, ⟨50, _⟩ => ⟨S8x4096, .i32⟩
  | .hbm, ⟨51, _⟩ => ⟨S_, .i32⟩
  | .hbm, ⟨52, _⟩ => ⟨S8x4096, .i32⟩
  | .hbm, ⟨53, _⟩ => ⟨S8x4096, .i32⟩
  | .hbm, ⟨54, _⟩ => ⟨S8x4096x1, .i32⟩
  | .hbm, ⟨55, _⟩ => ⟨S8x4096x1024, .i32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S_, .f32⟩
  | .hbm, ⟨63, _⟩ => ⟨S8x1024, .f32⟩
  | .hbm, ⟨64, _⟩ => ⟨S4096x8, .f32⟩
  | .hbm, ⟨65, _⟩ => ⟨S4096x8x1024, .f32⟩
  | .hbm, ⟨66, _⟩ => ⟨S_, .f32⟩
  | .hbm, ⟨67, _⟩ => ⟨S4096x8x1024, .f32⟩
  | .hbm, ⟨68, _⟩ => ⟨S_, .i32⟩
  | .hbm, ⟨69, _⟩ => ⟨S4096x8, .f32⟩
  | .hbm, ⟨70, _⟩ => ⟨S4096x8x1024, .f32⟩
  | .hbm, ⟨71, _⟩ => ⟨S_, .i32⟩
  | .hbm, ⟨72, _⟩ => ⟨S8x1024, .f32⟩
  | .hbm, ⟨73, _⟩ => ⟨S4096x8x1024, .f32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S1x8, .f32⟩
  | .hbm, ⟨78, _⟩ => ⟨S8, .f32⟩
  | .hbm, ⟨79, _⟩ => ⟨S_, .i32⟩
  | .hbm, ⟨80, _⟩ => ⟨S_, .i32⟩
  | .hbm, ⟨81, _⟩ => ⟨S1x8x1024, .f32⟩
  | .hbm, ⟨82, _⟩ => ⟨S8x1024, .f32⟩
  | .hbm, ⟨83, _⟩ => ⟨S8x1, .f32⟩
  | .hbm, ⟨84, _⟩ => ⟨S8x1024, .f32⟩
  | .hbm, ⟨85, _⟩ => ⟨S8x1024, .f32⟩
  | .hbm, ⟨86, _⟩ => ⟨S8x1024, .f32⟩
  | .hbm, ⟨87, _⟩ => ⟨S1x8x1024, .f32⟩
  | .hbm, ⟨88, _⟩ => ⟨S_, .i32⟩
  | .hbm, ⟨89, _⟩ => ⟨S_, .i32⟩
  | .hbm, ⟨90, _⟩ => ⟨S4096x8x1024, .f32⟩
  | .hbm, ⟨91, _⟩ => ⟨S_, .i32⟩
  | .hbm, ⟨92, _⟩ => ⟨S_, .i32⟩
  | .hbm, ⟨93, _⟩ => ⟨S8x4096x1024, .f32⟩
  | .hbm, ⟨94, _⟩ => ⟨S_, .i32⟩
  | .hbm, ⟨95, _⟩ => ⟨S8x4096x1024, .i32⟩
  | .hbm, ⟨96, _⟩ => ⟨S8x4096x1024, .i1⟩
  | .hbm, ⟨97, _⟩ => ⟨S_, .i32⟩
  | .hbm, ⟨98, _⟩ => ⟨S8x4096x1024, .i32⟩
  | .hbm, ⟨99, _⟩ => ⟨S8x4096x1024, .i32⟩
  | .hbm, ⟨100, _⟩ => ⟨S8x4096x1024, .i32⟩
  | .hbm, ⟨101, _⟩ => ⟨S8x4096x1024x1, .i32⟩
  | .hbm, ⟨102, _⟩ => ⟨S1, .i32⟩
  | .hbm, ⟨103, _⟩ => ⟨S_, .i32⟩
  | .hbm, ⟨104, _⟩ => ⟨S8x4096x1024x1, .i32⟩
  | .hbm, ⟨105, _⟩ => ⟨S8x4096x1024x1, .i1⟩
  | .hbm, ⟨106, _⟩ => ⟨S1x1x1x1, .i32⟩
  | .hbm, ⟨107, _⟩ => ⟨S8x4096x1024x1, .i32⟩
  | .hbm, ⟨108, _⟩ => ⟨S8x4096x1024x1, .i1⟩
  | .hbm, ⟨109, _⟩ => ⟨S8x4096x1024x1, .i1⟩
  | .hbm, ⟨110, _⟩ => ⟨S_, .i1⟩
  | .hbm, ⟨111, _⟩ => ⟨S8x4096x1024, .i1⟩
  | .hbm, ⟨112, _⟩ => ⟨S8x4096x1024, .f32⟩
  | .hbm, ⟨113, _⟩ => ⟨S_, .f32⟩
  | .hbm, ⟨114, _⟩ => ⟨S8x4096x1024, .f32⟩
  | .hbm, ⟨115, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1_0 : Ref sig .tc := ⟨.hbm, 23, rfl⟩
abbrev main_v11 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v12 : Ref sig .tc := ⟨.hbm, 46, rfl⟩
abbrev main_v13 : Ref sig .tc := ⟨.hbm, 47, rfl⟩
abbrev main_call3_call0_c : Ref sig .tc := ⟨.hbm, 48, rfl⟩
abbrev main_call3_call0_v0 : Ref sig .tc := ⟨.hbm, 49, rfl⟩
abbrev main_v14 : Ref sig .tc := ⟨.hbm, 50, rfl⟩
abbrev main_c_1 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_2 : Ref sig .tc := ⟨.hbm, 59, rfl⟩
abbrev main_v22 : Ref sig .tc := ⟨.hbm, 60, rfl⟩
abbrev main_v23 : Ref sig .tc := ⟨.hbm, 61, rfl⟩
abbrev main_cst_3 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_4 : Ref sig .tc := ⟨.hbm, 66, rfl⟩
abbrev main_v27 : Ref sig .tc := ⟨.hbm, 67, rfl⟩
abbrev main_c_5 : Ref sig .tc := ⟨.hbm, 68, rfl⟩
abbrev main_v28_0 : Ref sig .tc := ⟨.hbm, 69, rfl⟩
abbrev main_v28_1 : Ref sig .tc := ⟨.hbm, 70, rfl⟩
abbrev main_v28_2 : Ref sig .tc := ⟨.hbm, 71, rfl⟩
abbrev main_v28_3 : Ref sig .tc := ⟨.hbm, 72, rfl⟩
abbrev main_v28_4 : Ref sig .tc := ⟨.hbm, 73, rfl⟩
abbrev main_while0c_c_10 : Ref sig .tc := ⟨.hbm, 74, rfl⟩
abbrev main_while0c_v31 : Ref sig .tc := ⟨.hbm, 75, rfl⟩
abbrev main_while0b_call4_c : Ref sig .tc := ⟨.hbm, 76, rfl⟩
abbrev main_while0b_call4_v0 : Ref sig .tc := ⟨.hbm, 77, rfl⟩
abbrev main_while0b_v31 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_v0 : Ref sig .tc := ⟨.hbm, 81, rfl⟩
abbrev main_while0b_v32 : Ref sig .tc := ⟨.hbm, 82, rfl⟩
abbrev main_while0b_v33 : Ref sig .tc := ⟨.hbm, 83, rfl⟩
abbrev main_while0b_v34 : Ref sig .tc := ⟨.hbm, 84, rfl⟩
abbrev main_while0b_v35 : Ref sig .tc := ⟨.hbm, 85, rfl⟩
abbrev main_while0b_v36 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_v37 : Ref sig .tc := ⟨.hbm, 90, rfl⟩
abbrev main_while0b_c_10 : Ref sig .tc := ⟨.hbm, 91, rfl⟩
abbrev main_while0b_v38 : Ref sig .tc := ⟨.hbm, 92, rfl⟩
abbrev main_v29 : Ref sig .tc := ⟨.hbm, 93, rfl⟩
abbrev main_call7_c : Ref sig .tc := ⟨.hbm, 94, rfl⟩
abbrev main_call7_v0 : Ref sig .tc := ⟨.hbm, 95, rfl⟩
abbrev main_call7_v1 : Ref sig .tc := ⟨.hbm, 96, rfl⟩
abbrev main_call7_c_0 : Ref sig .tc := ⟨.hbm, 97, rfl⟩
abbrev main_call7_v2 : Ref sig .tc := ⟨.hbm, 98, rfl⟩
abbrev main_call7_v3 : Ref sig .tc := ⟨.hbm, 99, rfl⟩
abbrev main_call7_v4 : Ref sig .tc := ⟨.hbm, 100, rfl⟩
abbrev main_call7_v5 : Ref sig .tc := ⟨.hbm, 101, rfl⟩
abbrev main_call7_c_1 : Ref sig .tc := ⟨.hbm, 102, rfl⟩
abbrev main_call7_c_2 : Ref sig .tc := ⟨.hbm, 103, rfl⟩
abbrev main_call7_v6 : Ref sig .tc := ⟨.hbm, 104, rfl⟩
abbrev main_call7_v7 : Ref sig .tc := ⟨.hbm, 105, rfl⟩
abbrev main_call7_v8 : Ref sig .tc := ⟨.hbm, 106, rfl⟩
abbrev main_call7_v9 : Ref sig .tc := ⟨.hbm, 107, rfl⟩
abbrev main_call7_v10 : Ref sig .tc := ⟨.hbm, 108, rfl⟩
abbrev main_call7_v11 : Ref sig .tc := ⟨.hbm, 109, rfl⟩
abbrev main_call7_c_3 : Ref sig .tc := ⟨.hbm, 110, rfl⟩
abbrev main_call7_v12 : Ref sig .tc := ⟨.hbm, 111, rfl⟩
abbrev main_call7_v13 : Ref sig .tc := ⟨.hbm, 112, rfl⟩
abbrev main_call7_cst : Ref sig .tc := ⟨.hbm, 113, rfl⟩
abbrev main_call7_v14 : Ref sig .tc := ⟨.hbm, 114, rfl⟩
abbrev main_v30 : Ref sig .tc := ⟨.hbm, 115, rfl⟩

abbrev nD : Nat := 1
abbrev τ : Topo := Topo.v7x

variable {F : FTy → Type} [FloatOps F]

abbrev main_while0_count : Scf.Loop 32 := ⟨0#32, 4096#32, 1#32⟩
-- ==== Proof.Ema.Recurrence.lean ====
/- The mathematics of the running average: the recurrence over the tokens of one lane, its clipped weights, and the
   closed form of a stretch of it that the kernel evaluates block by block. Nothing here reads a program. -/
module

public import Idealize.ShloMosaic.Lib.Pointwise
public import Idealize.ShloMosaic.Lib.IdealHost

@[expose] public section

noncomputable section

namespace Cert.Ema

open Idealize.ShloMosaic

/-- The recurrence: start at `C`, and at token `n` multiply by `g n` and add `x n`. -/
def run (C : EReal) (g x : ℕ → EReal) : ℕ → EReal
  | 0 => C
  | n + 1 => g n * run C g x n + x n

/-- Running `a + n` tokens is running `a` and then `n` more from what they left. -/
theorem run_add (C : EReal) (g x : ℕ → EReal) (a n : ℕ) :
    run C g x (a + n) = run (run C g x a) (fun k => g (a + k)) (fun k => x (a + k)) n := by
  induction n with
  | zero => rfl
  | succ n ih =>
    show g (a + n) * run C g x (a + n) + x (a + n) = _
    rw [ih]
    rfl

/-- The recurrence reads its factors and terms only at the tokens it has run. -/
theorem run_congr (C : EReal) (g x g' x' : ℕ → EReal) (n : ℕ) (hg : ∀ k < n, g k = g' k) (hx : ∀ k < n, x k = x' k) :
    run C g x n = run C g' x' n := by
  induction n with
  | zero => rfl
  | succ n ih =>
    show g n * run C g x n + x n = g' n * run C g' x' n + x' n
    rw [ih (fun k hk => hg k (Nat.lt_succ_of_lt hk)) (fun k hk => hx k (Nat.lt_succ_of_lt hk)), hg n (Nat.lt_succ_self n),
      hx n (Nat.lt_succ_self n)]

/-- A token's weight: its score clipped to the two stated bounds. -/
def weight (v : EReal) : EReal := min (Ideal.ofBits .f32 0x3F7FF972#32) (max (Ideal.ofBits .f32 0x38D1B717#32) v)

/-- The lower bound is a positive real. -/
theorem lower_pos : ∃ a : ℝ, 0 < a ∧ Ideal.ofBits .f32 0x38D1B717#32 = (a : EReal) := by
  refine ⟨_, ?_, by simp [Ideal.ofBits, Ideal.ieee, -EReal.coe_mul]; rfl⟩
  norm_num

/-- The upper bound is a positive real below one. -/
theorem upper_lt_one : ∃ a : ℝ, 0 < a ∧ a < 1 ∧ Ideal.ofBits .f32 0x3F7FF972#32 = (a : EReal) := by
  refine ⟨_, ?_, ?_, by simp [Ideal.ofBits, Ideal.ieee, -EReal.coe_mul]; rfl⟩ <;> norm_num

/-- Whatever the score, its weight is a real strictly between zero and one. -/
theorem weight_real (v : EReal) : ∃ r : ℝ, 0 < r ∧ r < 1 ∧ weight v = (r : EReal) := by
  obtain ⟨a, ha, hl⟩ := lower_pos
  obtain ⟨b, hb, hb1, hu⟩ := upper_lt_one
  have h1 : weight v ≤ (b : EReal) := hu ▸ min_le_left _ _
  have h2 : ((min b a : ℝ) : EReal) ≤ weight v := by
    unfold weight
    rw [hu, hl]
    refine le_min ?_ (le_max_of_le_left ?_)
    · exact_mod_cast min_le_left b a
    · exact_mod_cast min_le_right b a
  have ht : weight v ≠ ⊤ := ne_of_lt (lt_of_le_of_lt h1 (EReal.coe_lt_top b))
  have hbt : weight v ≠ ⊥ := ne_of_gt (lt_of_lt_of_le (EReal.bot_lt_coe _) h2)
  have e : ((weight v).toReal : EReal) = weight v := EReal.coe_toReal ht hbt
  rw [← e] at h1 h2
  have h1' : (weight v).toReal ≤ b := by exact_mod_cast h1
  have h2' : min b a ≤ (weight v).toReal := by exact_mod_cast h2
  exact ⟨(weight v).toReal, lt_of_lt_of_le (lt_min hb ha) h2', lt_of_le_of_lt h1' hb1, e.symm⟩

/-- A finite sum of reals, read as an extended real, is the sum of the terms read so. -/
theorem coe_sum (s : Finset ℕ) (f : ℕ → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

/-- A nonnegative real multiplies through a finite sum of extended reals. -/
theorem mul_sum {c : ℝ} (hc : 0 ≤ c) (s : Finset ℕ) (f : ℕ → EReal) : (c : EReal) * ∑ k ∈ s, f k = ∑ k ∈ s, (c : EReal) * f k := by
  induction s using Finset.cons_induction with
  | empty => simp
  | cons a s ha ih =>
    rw [Finset.sum_cons, Finset.sum_cons, EReal.left_distrib_of_nonneg_of_ne_top (by exact_mod_cast hc) (EReal.coe_ne_top c), ih]

/-- The sum of the logarithms of the first `n` factors. -/
def logs (r : ℕ → ℝ) (n : ℕ) : ℝ := ∑ k ∈ Finset.range n, Real.log (1 - r k)

/-- THE CLOSED FORM: after `n` tokens with weights `r k`, the value is the sum of the tokens' terms, each damped by the
    product of the later factors, plus the start damped by all of them; the products are exponentials of sums of logarithms. -/
theorem run_closed (C : EReal) (r : ℕ → ℝ) (h : ℕ → EReal) (hr : ∀ k, r k < 1) (n : ℕ) :
    run C (fun k => ((1 - r k : ℝ) : EReal)) (fun k => (r k : EReal) * h k) n
      = (∑ j ∈ Finset.range n, ((Real.exp (logs r n - logs r (j + 1)) : ℝ) : EReal) * (r j : EReal) * h j)
        + ((Real.exp (logs r n) : ℝ) : EReal) * C := by
  induction n with
  | zero => simp [run, logs]
  | succ n ih =>
    have hg : 0 < 1 - r n := by linarith [hr n]
    have hs : logs r (n + 1) = Real.log (1 - r n) + logs r n := by
      unfold logs
      rw [Finset.sum_range_succ, add_comm]
    have he : ∀ z, Real.exp (logs r (n + 1) - z) = (1 - r n) * Real.exp (logs r n - z) := fun z => by
      rw [hs, add_sub_assoc, Real.exp_add, Real.exp_log hg]
    have he0 : Real.exp (logs r (n + 1)) = (1 - r n) * Real.exp (logs r n) := by
      rw [hs, Real.exp_add, Real.exp_log hg]
    show ((1 - r n : ℝ) : EReal) * run C _ _ n + (r n : EReal) * h n = _
    rw [ih, EReal.left_distrib_of_nonneg_of_ne_top (by exact_mod_cast hg.le) (EReal.coe_ne_top _), mul_sum hg.le,
      Finset.sum_range_succ, sub_self, Real.exp_zero, EReal.coe_one, one_mul, he0, EReal.coe_mul, mul_assoc, add_right_comm]
    refine congrArg (· + _ + _) (Finset.sum_congr rfl fun j _ => ?_)
    rw [he, EReal.coe_mul, mul_assoc, mul_assoc, mul_assoc]

end Cert.Ema

end
-- ==== Proof.Ema.Block.lean ====
/- What one block of the kernel computes: over a column of 256 scores and a block of 256 rows, the sums of logarithms, the
   damped weights and the product with the block are the closed form of 256 steps of the recurrence. Stated over the
   scores and rows as functions of the row number; nothing here reads a memory. -/
module

public import proofs.«01_k».proof.Proof.Ema.Recurrence
public import proofs.«01_k».proof.Proof.Gen.KernelIdeal.Skeleton
public import Idealize.ShloMosaic.Lib.WordCmp

@[expose] public section

noncomputable section

namespace Cert.Ema

open Idealize.ShloMosaic Cert.KernelIdeal Cert.KernelIdeal.Gen

/-- Row numbers compare as numbers: at least. -/
theorem sge_rows {α : Type} (i k : Fin 256) (x y : α) :
    Scalar.select (IntOp.cmpi .sge (BitVec.ofNat 32 i.val) (BitVec.ofNat 32 k.val)) x y = if k.val ≤ i.val then x else y := by
  by_cases h : k.val ≤ i.val
  · rw [(WordCmp.cmpi_sge_ofNat_eq_one_iff (by omega) (by omega)).2 h, if_pos h]; rfl
  · rw [(WordCmp.cmpi_sge_ofNat_eq_zero_iff (by omega) (by omega)).2 (by omega), if_neg h]; rfl

/-- Row numbers compare as numbers: at most. -/
theorem sle_rows {α : Type} (i k : Fin 256) (x y : α) :
    Scalar.select (IntOp.cmpi .sle (BitVec.ofNat 32 i.val) (BitVec.ofNat 32 k.val)) x y = if i.val ≤ k.val then x else y := by
  by_cases h : i.val ≤ k.val
  · rw [(WordCmp.cmpi_sle_ofNat_eq_one_iff (by omega) (by omega)).2 h, if_pos h]; rfl
  · rw [(WordCmp.cmpi_sle_ofNat_eq_zero_iff (by omega) (by omega)).2 (by omega), if_neg h]; rfl

/-- Row numbers compare as numbers: equal. -/
theorem eq_rows {α : Type} (i k : Fin 256) (x y : α) :
    Scalar.select (IntOp.cmpi .eq (BitVec.ofNat 32 i.val) (BitVec.ofNat 32 k.val)) x y = if i = k then x else y := by
  by_cases h : i = k
  · rw [(WordCmp.cmpi_eq_ofNat_eq_one_iff (by omega) (by omega)).2 (congrArg Fin.val h), if_pos h]; rfl
  · rw [(WordCmp.cmpi_eq_ofNat_eq_zero_iff (by omega) (by omega)).2 (fun e => h (Fin.ext e)), if_neg h]; rfl

/-- The mask read as a float is one where the row is at least the column and zero elsewhere. -/
theorem mask_float (i k : Fin 256) :
    FloatOps.sitofp (F := Ideal) .f32 (BitVec.setWidth 32 (IntOp.cmpi .sge (BitVec.ofNat 32 i.val) (BitVec.ofNat 32 k.val)))
      = if k.val ≤ i.val then (1 : EReal) else 0 := by
  by_cases h : k.val ≤ i.val
  · rw [(WordCmp.cmpi_sge_ofNat_eq_one_iff (by omega) (by omega)).2 h, if_pos h]
    show (((BitVec.setWidth 32 1#1).toInt : ℝ) : EReal) = 1
    rw [show (BitVec.setWidth 32 1#1).toInt = 1 by decide]; simp
  · rw [(WordCmp.cmpi_sge_ofNat_eq_zero_iff (by omega) (by omega)).2 (by omega), if_neg h]
    show (((BitVec.setWidth 32 0#1).toInt : ℝ) : EReal) = 0
    rw [show (BitVec.setWidth 32 0#1).toInt = 0 by decide]; simp

/-- A sum over the rows of a block that keeps the rows up to `i` is a sum over the first `i + 1` numbers. -/
theorem sum_upto (f : ℕ → EReal) (i : Fin 256) : (∑ k : Fin 256, if k.val ≤ i.val then f k.val else 0) = ∑ k ∈ Finset.range (i.val + 1), f k := by
  rw [Fin.sum_univ_eq_sum_range (fun k => if k ≤ i.val then f k else 0) 256, ← Finset.sum_filter]
  refine Finset.sum_congr (Finset.ext fun n => ?_) fun _ _ => rfl
  rw [Finset.mem_range, Finset.mem_filter, Finset.mem_range]
  omega

/-- One less a weight that is the real `r` is the real `1 - r`. -/
theorem one_sub_real (r : ℝ) : (1 : EReal) - (r : EReal) = ((1 - r : ℝ) : EReal) := by
  rw [EReal.coe_sub, EReal.coe_one]

/-- The logarithm of one less a weight is the real logarithm. -/
theorem log_real (r : ℝ) (hr : r < 1) : Ideal.log (1 - (r : EReal)) = ((Real.log (1 - r) : ℝ) : EReal) := by
  rw [one_sub_real, Ideal.log_coe, if_neg (by linarith)]

/-- The logarithms of the rows up to `i`, summed over the block, are the first `i + 1` logarithms' sum. -/
theorem sum_logs (r : ℕ → ℝ) (i : Fin 256) :
    (∑ k : Fin 256, if k.val ≤ i.val then ((Real.log (1 - r k.val) : ℝ) : EReal) else 0) = ((logs r (i.val + 1) : ℝ) : EReal) := by
  rw [sum_upto (fun k => ((Real.log (1 - r k) : ℝ) : EReal)), logs, coe_sum]

section

variable (v0 : Vec Ideal S1x256x1 .f32) (r : ℕ → ℝ) (hr : ∀ k, r k < 1) (hv : ∀ k : Fin 256, weight (v0 (ix3 0 k 0)) = (r k.val : EReal))

include hr hv

/-- The kernel's running sum of logarithms down the column. -/
theorem logs_apply (i : Fin 256) : k0_pay8 (F := Ideal) v0 (ix2 i 0) = ((logs r (i.val + 1) : ℝ) : EReal) := by
  unfold weight at hv
  pointwise [k0_pay8, k0_pay6, k0_pay5, k0_pay7]
  simp only [hv, log_real _ (hr _), mask_float, ite_mul, one_mul, zero_mul, sum_logs]

/-- The kernel's product of the damped weights with the block. -/
theorem product_apply (hb : Vec Ideal S1x256x1024 .f32) (d : Fin 1024) (h : ℕ → EReal) (hh : ∀ k : Fin 256, hb (ix3 0 k d) = h k.val) (i : Fin 256) :
    k0_pay9 (F := Ideal) v0 hb (ix2 i d)
      = ∑ j ∈ Finset.range (i.val + 1), ((Real.exp (logs r (i.val + 1) - logs r (j + 1)) : ℝ) : EReal) * (r j : EReal) * h j := by
  unfold weight at hv
  pointwise [k0_pay8, k0_pay9, k0_pay6, k0_pay5, k0_pay7]
  simp only [hv, log_real _ (hr _), mask_float, ite_mul, one_mul, zero_mul, sge_rows, sle_rows, eq_rows, hh, sum_logs, Finset.sum_ite_eq',
    Finset.mem_univ, if_true, ← EReal.coe_sub, Ideal.exp_coe]
  exact sum_upto (fun j => ((Real.exp (logs r (i.val + 1) - logs r (j + 1)) : ℝ) : EReal) * (r j : EReal) * h j) i

end

/-- A ROW OF THE KERNEL'S BLOCK: what the kernel adds up for row `i` and lane `d`, over a column of scores `w`, a block of rows
    `h` and the carried row, is the recurrence run `i + 1` tokens from the carried value. -/
theorem row_apply (v0 : Vec Ideal S1x256x1 .f32) (hb : Vec Ideal S1x256x1024 .f32) (cy : Vec Ideal S1x1024 .f32) (w h : ℕ → EReal) (d : Fin 1024)
    (hw : ∀ k : Fin 256, v0 (ix3 0 k 0) = w k.val) (hh : ∀ k : Fin 256, hb (ix3 0 k d) = h k.val) (i : Fin 256) :
    k0_pay2 (F := Ideal) (k0_pay8 v0) (k0_pay9 v0 hb) cy (ix2 i d)
      = run (cy (ix2 0 d)) (fun k => 1 - weight (w k)) (fun k => weight (w k) * h k) (i.val + 1) := by
  choose r _ hr he using fun k => weight_real (w k)
  have hv : ∀ k : Fin 256, weight (v0 (ix3 0 k 0)) = (r k.val : EReal) := fun k => by rw [hw, he]
  simp only [he, one_sub_real]
  rw [run_closed _ r h hr]
  pointwise [k0_pay2]
  rw [product_apply v0 r hr hv hb d h hh i, logs_apply v0 r hr hv i, Ideal.exp_coe]

/-- The block the kernel stores, at row `i` and lane `d`. -/
theorem block_apply (v0 : Vec Ideal S1x256x1 .f32) (hb : Vec Ideal S1x256x1024 .f32) (cy : Vec Ideal S1x1024 .f32) (w h : ℕ → EReal) (d : Fin 1024)
    (hw : ∀ k : Fin 256, v0 (ix3 0 k 0) = w k.val) (hh : ∀ k : Fin 256, hb (ix3 0 k d) = h k.val) (i : Fin 256) :
    k0_pay3 (F := Ideal) (k0_pay8 v0) (k0_pay9 v0 hb) cy (ix3 0 i d)
      = run (cy (ix2 0 d)) (fun k => 1 - weight (w k)) (fun k => weight (w k) * h k) (i.val + 1) := by
  refine Eq.trans ?_ (row_apply v0 hb cy w h d hw hh i)
  pointwise [k0_pay3]

/-- The row the kernel carries to its next block is the block's last row. -/
theorem carry_apply (v0 : Vec Ideal S1x256x1 .f32) (hb : Vec Ideal S1x256x1024 .f32) (cy : Vec Ideal S1x1024 .f32) (w h : ℕ → EReal) (d : Fin 1024)
    (hw : ∀ k : Fin 256, v0 (ix3 0 k 0) = w k.val) (hh : ∀ k : Fin 256, hb (ix3 0 k d) = h k.val) :
    k0_pay4 (F := Ideal) (k0_pay8 v0) (k0_pay9 v0 hb) cy (ix2 0 d)
      = run (cy (ix2 0 d)) (fun k => 1 - weight (w k)) (fun k => weight (w k) * h k) 256 := by
  refine Eq.trans ?_ (row_apply v0 hb cy w h d hw hh 255)
  pointwise [k0_pay4]

/-- The row the kernel starts a sequence from is zero. -/
theorem start_apply (d : Fin 1024) : k0_pay1 (F := Ideal) (ix2 0 d) = 0 := by
  pointwise [k0_pay1]

end Cert.Ema

end
-- ==== Proof.Ema.Body.lean ====
/- What one grid point leaves behind: the output block and the carried row, as the kernel's payloads over the point's two
   input blocks and the row carried in. -/
module

public import proofs.«01_k».proof.Proof.Ema.Block
public import proofs.«01_k».proof.Proof.Gen.KernelIdeal.Value

@[expose] public section

noncomputable section

namespace Cert.Ema

open Idealize.ShloMosaic Idealize.ShloMosaic.TcCoe Idealize.SL.Sem Cert.KernelIdeal Cert.KernelIdeal.Gen

/-- The offsets of a whole two-axis block are zero. -/
theorem off2 : (![0, 0] : Fin 2 → Nat) = fun _ => 0 := funext fun a => by fin_cases a <;> rfl

/-- The offsets of a whole three-axis block are zero. -/
theorem off3 : (![0, 0, 0] : Fin 3 → Nat) = fun _ => 0 := funext fun a => by fin_cases a <;> rfl

/-- The column of a block of score pairs that the kernel reads: the second score of every row. -/
def scores (x : Vec Ideal S1x256x2 .f32) : Vec Ideal S1x256x1 .f32 := fun y => x (ix3 0 (y 1) 1)

/-- The kernel's load of that column is the second score of every row. -/
theorem load_scores (x : Vec Ideal S1x256x2 .f32) (h) : View.ld x (Rect.unit (s := S1x256x2) ![0, 0, 1] ![1, 256, 1] h) = scores x := by
  funext y
  show x _ = x _
  refine congrArg x (funext fun a => Fin.ext ?_)
  have h0 : (y 0).val < 1 := (y 0).isLt
  have h2 : (y 2).val < 1 := (y 2).isLt
  match a with
  | ⟨0, _⟩ => show 0 + 1 * (y 0).val = 0; omega
  | ⟨1, _⟩ => show 0 + 1 * (y 1).val = (y 1).val; omega
  | ⟨2, _⟩ => show 1 + 1 * (y 2).val = 1; omega

variable (c : Dev nD) (i : grid0.Coords) (a2 : Memref sig .tc .vmem S1x256x2 .f32) (h2 : a2.IsWhole)
  (a3 : Memref sig .tc .vmem S1x256x1024 .f32) (h3 : a3.IsWhole) (a4 : Memref sig .tc .vmem S1x256x1024 .f32) (h4 : a4.IsWhole)
  (a5 : Memref sig .tc .vmem S1x1024 .f32) (h5 : a5.IsWhole)
  (x0 : Vec Ideal S1x256x2 .f32) (x1 : Vec Ideal S1x256x1024 .f32)

/-- At a point that goes on with a sequence, the output block is computed from the row carried in. -/
theorem out_later (hc : ¬cond0_0 i) (xs : Vec Ideal S1x1024 .f32) :
    out0_B_2 (F := Ideal) c i a2 h2 a3 h3 a4 h4 a5 h5 hc x0 x1 xs = k0_pay3 (k0_pay8 (scores x0)) (k0_pay9 (scores x0) x1) xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero off3]
  simp only [View.readAt_eq_ld, h2.read_unread, h3.read_unread, h5.read_unread, View.ld_unit_zero (S := S1x256x1024) off3,
    View.ld_unit_zero (S := S1x1024) off2]
  erw [load_scores]

/-- At such a point the row carried out is computed from the row carried in. -/
theorem carry_later (hc : ¬cond0_0 i) (xs : Vec Ideal S1x1024 .f32) :
    sout0_B_0 (F := Ideal) c i a2 h2 a3 h3 a4 h4 a5 h5 hc x0 x1 xs = k0_pay4 (k0_pay8 (scores x0)) (k0_pay9 (scores x0) x1) xs := by
  unfold sout0_B_0
  rw [View.read_writes_eq_canon _ _ _ (scover0_B_0 c i a2 h2 a3 h3 a4 h4 a5 h5 hc x0 x1 xs)]
  unfold kernelRun0_B
  dsimp only
  sl_unfold_words
  rw [View.canon_unit_zero off2]
  simp only [View.readAt_eq_ld, h2.read_unread, h3.read_unread, h5.read_unread, View.ld_unit_zero (S := S1x256x1024) off3,
    View.ld_unit_zero (S := S1x1024) off2]
  erw [load_scores]

/-- At a point that starts a sequence, the output block is computed from the zero row. -/
theorem out_first (hc : cond0_0 i) :
    out0_A_2 (F := Ideal) c i a2 h2 a3 h3 a4 h4 a5 h5 hc x0 x1 = k0_pay3 (k0_pay8 (scores x0)) (k0_pay9 (scores x0) x1) (k0_pay1 (F := Ideal)) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero off3]
  simp only [View.readAt_eq_ld, h2.read_unread, h3.read_unread, View.ld_unit_zero (S := S1x256x1024) off3,
    View.readCov_unit_zero (S := S1x1024) _ off2]
  erw [load_scores]

/-- At such a point the row carried out is computed from the zero row. -/
theorem carry_first (hc : cond0_0 i) :
    sout0_A_0 (F := Ideal) c i a2 h2 a3 h3 a4 h4 a5 h5 hc x0 x1 = k0_pay4 (k0_pay8 (scores x0)) (k0_pay9 (scores x0) x1) (k0_pay1 (F := Ideal)) := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S1x1024) off2]
  simp only [View.readAt_eq_ld, h2.read_unread, h3.read_unread, View.ld_unit_zero (S := S1x256x1024) off3,
    View.readCov_unit_zero (S := S1x1024) _ off2]
  erw [load_scores]

end Cert.Ema

end
-- ==== Proof.Ema.Sequence.lean ====
/- What the kernel's result array holds: at batch `b`, token `t` and lane `d` the recurrence of that lane run `t + 1` tokens
   from zero. By induction over the grid points: the row carried into a point is the recurrence run up to its first token. -/
module

public import proofs.«01_k».proof.Proof.Ema.Body

@[expose] public section

noncomputable section

namespace Cert.Ema

open Idealize.ShloMosaic Idealize.ShloMosaic.TcCoe Idealize.SL.Sem

/-- The weight of token `n` of batch `b`, from the second score of its pair. -/
def tokenWeight (P : (⟨3, ![8, 4096, 2]⟩ : Shape).Idx → EReal) (b : Fin 8) (n : ℕ) : EReal :=
  weight (if h : n < 4096 then P (ix3 b ⟨n, h⟩ 1) else 0)

/-- Token `n` of batch `b` at lane `d`. -/
def tokenRow (X : (⟨3, ![8, 4096, 1024]⟩ : Shape).Idx → EReal) (b : Fin 8) (d : Fin 1024) (n : ℕ) : EReal :=
  if h : n < 4096 then X (ix3 b ⟨n, h⟩ d) else 0

/-- The average of batch `b` at lane `d` after `n` tokens. -/
def average (P : (⟨3, ![8, 4096, 2]⟩ : Shape).Idx → EReal) (X : (⟨3, ![8, 4096, 1024]⟩ : Shape).Idx → EReal) (b : Fin 8) (d : Fin 1024) (n : ℕ) :
    EReal :=
  run 0 (fun k => 1 - tokenWeight P b k) (fun k => tokenWeight P b k * tokenRow X b d k) n

open Cert.KernelIdeal Cert.KernelIdeal.Gen

variable (m : (ℓ : Loc nD τ sig) → Buf (Elt Ideal) ℓ) (c : Dev nD)

/-- The launch's scores. -/
abbrev argScores : (⟨3, ![8, 4096, 2]⟩ : Shape).Idx → EReal := m ((c : Thread nD τ).loc main_arg2)

/-- The launch's tokens. -/
abbrev argTokens : (⟨3, ![8, 4096, 1024]⟩ : Shape).Idx → EReal := m ((c : Thread nD τ).loc main_arg0)

/-- Which block each input window reads at a grid point: the point's batch and its stretch of 256 tokens. -/
theorem windows_at : ∀ t : Fin cfg0.N, win0_0.index t (0 : Fin 3) = t.val / 16 ∧ win0_0.index t (1 : Fin 3) = t.val % 16
    ∧ win0_0.index t (2 : Fin 3) = 0 ∧ win0_1.index t (0 : Fin 3) = t.val / 16 ∧ win0_1.index t (1 : Fin 3) = t.val % 16
    ∧ win0_1.index t (2 : Fin 3) = 0 :=
  (by decide +kernel : ∀ t : Fin grid0.N, _)

/-- The scores a grid point reads are those of its 256 tokens. -/
theorem scores_at (t : Fin cfg0.N) (b : Fin 8) (hb : b.val = t.val / 16) (k : Fin 256) :
    scores (iblk m c 0 t) (ix3 0 k 0) = if h : 256 * (t.val % 16) + k.val < 4096 then argScores m c (ix3 b ⟨256 * (t.val % 16) + k.val, h⟩ 1) else 0 := by
  have hk := k.isLt
  rw [dif_pos (by omega)]
  obtain ⟨e0, e1, e2, -, -, -⟩ := windows_at t
  unfold scores iblk
  rw [View.read_apply]
  show m _ _ = m _ _
  refine congrArg (m _) (funext fun a => Fin.ext ?_)
  match a with
  | ⟨0, _⟩ => show win0_0.index t 0 * 1 + 1 * 0 = b.val; rw [e0]; omega
  | ⟨1, _⟩ => show win0_0.index t 1 * 256 + 1 * k.val = 256 * (t.val % 16) + k.val; rw [e1]; omega
  | ⟨2, _⟩ => show win0_0.index t 2 * 2 + 1 * 1 = 1; rw [e2]

/-- The rows a grid point reads are its 256 tokens. -/
theorem rows_at (t : Fin cfg0.N) (b : Fin 8) (hb : b.val = t.val / 16) (d : Fin 1024) (k : Fin 256) :
    iblk m c 1 t (ix3 0 k d : S1x256x1024.Idx) = tokenRow (argTokens m c) b d (256 * (t.val % 16) + k.val) := by
  have hk := k.isLt
  unfold tokenRow
  rw [dif_pos (by omega)]
  obtain ⟨-, -, -, e0, e1, e2⟩ := windows_at t
  unfold iblk
  rw [View.read_apply]
  show m _ _ = m _ _
  refine congrArg (m _) (funext fun a => Fin.ext ?_)
  match a with
  | ⟨0, _⟩ => show win0_1.index t 0 * 1 + 1 * 0 = b.val; rw [e0]; omega
  | ⟨1, _⟩ => show win0_1.index t 1 * 256 + 1 * k.val = 256 * (t.val % 16) + k.val; rw [e1]; omega
  | ⟨2, _⟩ => show win0_1.index t 2 * 1024 + 1 * d.val = d.val; rw [e2]; omega

/-- A stretch of the average: `n` tokens from the average after `256 * s` tokens. -/
theorem average_add (P : (⟨3, ![8, 4096, 2]⟩ : Shape).Idx → EReal) (X : (⟨3, ![8, 4096, 1024]⟩ : Shape).Idx → EReal) (b : Fin 8) (d : Fin 1024)
    (a n : ℕ) :
    average P X b d (a + n) = run (average P X b d a) (fun k => 1 - tokenWeight P b (a + k)) (fun k => tokenWeight P b (a + k) * tokenRow X b d (a + k)) n :=
  run_add _ _ _ a n

/-- One grid point, over a carried row that holds the average up to the point's first token: every row of the block is the
    average up to and including its token, and the row carried out is the average up to the next point's first token. -/
theorem point_step (t : Fin cfg0.N) (b : Fin 8) (hb : b.val = t.val / 16) (cy : Vec Ideal S1x1024 .f32)
    (hcy : ∀ d : Fin 1024, cy (ix2 0 d) = average (argScores m c) (argTokens m c) b d (256 * (t.val % 16))) (d : Fin 1024) :
    (∀ k : Fin 256, k0_pay3 (F := Ideal) (k0_pay8 (scores (iblk m c 0 t))) (k0_pay9 (scores (iblk m c 0 t)) (iblk m c 1 t)) cy (ix3 0 k d)
        = average (argScores m c) (argTokens m c) b d (256 * (t.val % 16) + (k.val + 1)))
    ∧ k0_pay4 (F := Ideal) (k0_pay8 (scores (iblk m c 0 t))) (k0_pay9 (scores (iblk m c 0 t)) (iblk m c 1 t)) cy (ix2 0 d)
        = average (argScores m c) (argTokens m c) b d (256 * (t.val % 16) + 256) := by
  constructor
  · intro k
    rw [average_add, ← hcy]
    exact block_apply _ _ _ (fun n => if h : 256 * (t.val % 16) + n < 4096 then argScores m c (ix3 b ⟨256 * (t.val % 16) + n, h⟩ 1) else 0)
      (fun n => tokenRow (argTokens m c) b d (256 * (t.val % 16) + n)) d (scores_at m c t b hb) (rows_at m c t b hb d) k
  · rw [average_add, ← hcy]
    exact carry_apply _ _ _ (fun n => if h : 256 * (t.val % 16) + n < 4096 then argScores m c (ix3 b ⟨256 * (t.val % 16) + n, h⟩ 1) else 0)
      (fun n => tokenRow (argTokens m c) b d (256 * (t.val % 16) + n)) d (scores_at m c t b hb) (rows_at m c t b hb d)

/-- What a grid point leaves: its block holds the average at every row, its carried row the average at its last row. -/
theorem point_value : ∀ (n : ℕ) (hn : n < cfg0.N) (b : Fin 8), b.val = n / 16 → ∀ d : Fin 1024,
    (∀ k : Fin 256, (outsAt0 m c n hn).1 (ix3 0 k d) = average (argScores m c) (argTokens m c) b d (256 * (n % 16) + (k.val + 1)))
    ∧ (outsAt0 m c n hn).2 (ix2 0 d) = average (argScores m c) (argTokens m c) b d (256 * (n % 16) + 256) := by
  intro n
  induction n with
  | zero =>
    intro hn b hb d
    have e := outsAt0_A m c ⟨0, hn⟩ rfl
    dsimp only at e
    rw [e, out_first, carry_first]
    exact point_step m c ⟨0, hn⟩ b hb _ (fun d => start_apply d) d
  | succ n ih =>
    intro hn b hb d
    by_cases h0 : (n + 1) % 16 = 0
    · have e := outsAt0_A m c ⟨n + 1, hn⟩ h0
      dsimp only at e
      rw [e, out_first, carry_first]
      exact point_step m c ⟨n + 1, hn⟩ b hb _ (fun d => by dsimp only; rw [h0]; exact start_apply d) d
    · have e := outsAt0_B m c ⟨n + 1, hn⟩ h0
      dsimp only at e
      rw [e, out_later, carry_later]
      refine point_step m c ⟨n + 1, hn⟩ b hb _ (fun d => ?_) d
      have hp := (ih (Nat.lt_of_succ_lt hn) b (by omega) d).2
      rw [show 256 * (n % 16) + 256 = 256 * ((n + 1) % 16) by omega] at hp
      exact hp

/-- THE KERNEL'S RESULT at batch `b`, token `t` and lane `d` is the average after `t + 1` tokens. -/
theorem kernel_value (b : Fin 8) (t : Fin 4096) (d : Fin 1024) :
    Cert.KernelIdeal.Value.G2 m c (ix3 b t d : S8x4096x1024.Idx) = average (argScores m c) (argTokens m c) b d (t.val + 1) := by
  have hb := b.isLt
  have ht := t.isLt
  have hd := d.isLt
  have hp : Cert.KernelIdeal.Value.pt2Of (ix3 b t d : S8x4096x1024.Idx) = 16 * b.val + t.val / 256 := by
    show 16 * (b.val / 1 - 0) + 1 * (t.val / 256 - 0) + 1 * (d.val / 1024 - 0) = _
    omega
  have hN : 16 * b.val + t.val / 256 < cfg0.N := by rw [show cfg0.N = 128 from N_0]; omega
  have hl : Cert.KernelIdeal.Value.loc2Of (ix3 b t d : S8x4096x1024.Idx) = (ix3 0 ⟨t.val % 256, Nat.mod_lt _ (by decide)⟩ d : S1x256x1024.Idx) := by
    funext a
    apply Fin.ext
    match a with
    | ⟨0, _⟩ => show b.val % 1 = 0; omega
    | ⟨1, _⟩ => rfl
    | ⟨2, _⟩ => show d.val % 1024 = d.val; omega
  unfold Cert.KernelIdeal.Value.G2
  rw [dif_pos (by rw [hp]; exact hN), hl, Cert.KernelIdeal.Value.fold0_congr m c _ _ _ (by omega) hp, ← Cert.KernelIdeal.Value.outsAt0_sweep m c _ hN,
    (point_value m c _ hN b (by omega) d).1]
  congr 1
  show 256 * ((16 * b.val + t.val / 256) % 16) + (t.val % 256 + 1) = t.val + 1
  omega

end Cert.Ema

end
-- ==== Proof.Ema.RefOps.lean ====
/- The reference's index operations where every token is a boundary: sorting keys already in order moves nothing, the running
   count of ones is the position plus one, and a take along the tokens reads the position it is given. -/
module

public import proofs.«01_k».proof.Proof.Gen.ReferenceIdeal.Run
public import Idealize.ShloMosaic.Lib.Pointwise
public import Idealize.ShloMosaic.Lib.SortPrefix
public import Idealize.ShloMosaic.Lib.SortFacts
public import Idealize.ShloMosaic.Lib.ReduceAll
public import Idealize.ShloMosaic.Lib.WordCmp
public import Idealize.ShloMosaic.Lib.Routing.Ops
public import Idealize.ShloMosaic.Lib.Routing.OpsOne

@[expose] public section

noncomputable section

namespace Cert.Ema

open Idealize.ShloMosaic Cert.ReferenceIdeal

/-- The order of the positions is a strict total order. -/
theorem position_order (n : ℕ) : StrictTotalBefore (fun k k' : Fin n => decide (k < k')) where
  irrefl a := by simp
  trans a b c hab hbc := by
    simp only [decide_eq_true_eq] at *
    omega
  total a b hab := by
    simp only [decide_eq_true_eq]
    omega

/-- Sorting the positions by their own order leaves each where it is. -/
theorem sorted_positions (n : ℕ) (k : Fin n) : sortedFrom (fun k k' : Fin n => decide (k < k')) k = k := by
  have h : List.finRange n = sortPositions n (fun k k' : Fin n => decide (k < k')) :=
    (position_order n).eq_stableSort_of_sorted (List.Perm.refl _)
      ((List.pairwise_lt_finRange n).imp fun {a b} hab => by simp only [decide_eq_false_iff_not]; omega)
  unfold sortedFrom
  rw [List.get_of_eq h.symm]
  simp

/-- Keys that increase along the tokens: the sort by key puts at each token the value that was there. -/
theorem argsort_apply (x y : S8x4096.Idx → BitVec 32) (hx : ∀ (b : Fin 8) (t : Fin 4096), x (ix2 b t) = BitVec.ofNat 32 t.val)
    (b : Fin 8) (t : Fin 4096) : (Host.sort2 S8x4096 1 comparator_i32_i32_d1 x y).2 (ix2 b t) = y (ix2 b t) := by
  rw [Host.sort2_eq_sortBy]
  show Host.sortBy S8x4096 1 comparator_i32_i32_d1 (fun j => (x j, y j)) y (ix2 b t) = _
  unfold Host.sortBy
  rw [dif_pos (by decide)]
  have hal : ∀ k : Fin 4096, Shape.Idx.along (ix2 b t : S8x4096.Idx) 1 k = ix2 b k := fun k => by
    funext a
    match a with
    | ⟨0, _⟩ => rfl
    | ⟨1, _⟩ => rfl
  have hcmp : (fun k k' : Fin 4096 => comparator_i32_i32_d1 (x (Shape.Idx.along (ix2 b t : S8x4096.Idx) 1 k), y (Shape.Idx.along (ix2 b t : S8x4096.Idx) 1 k))
      (x (Shape.Idx.along (ix2 b t : S8x4096.Idx) 1 k'), y (Shape.Idx.along (ix2 b t : S8x4096.Idx) 1 k')) == 1#1) = fun k k' => decide (k < k') := by
    funext k k'
    rw [hal, hal, hx, hx, Bool.eq_iff_iff, beq_iff_eq, decide_eq_true_eq]
    exact WordCmp.cmpi_slt_ofNat_eq_one_iff (by omega) (by omega)
  refine Eq.trans ?_ (congrArg y (hal t))
  refine congrArg (fun k => y (Shape.Idx.along (ix2 b t : S8x4096.Idx) 1 k)) ?_
  exact (congrArg (fun f => sortedFrom f t) hcmp).trans (sorted_positions 4096 t)

/-- The word of a position read as a signed number. -/
theorem position_toInt {n : ℕ} (hn : n < 4096) : (BitVec.ofNat 32 n).toInt = n := by
  rw [BitVec.toInt_eq_toNat_cond, BitVec.toNat_ofNat, Nat.mod_eq_of_lt (by omega), if_pos (by omega)]

/-- A take along the tokens of a matrix reads the token its index names. -/
theorem take_apply {α : Type} (x : S8x4096.Idx → α) (idx : IVec S8x4096x1 32) (b : Fin 8) (t n : Fin 4096)
    (h : idx (ix3 b t 0) = BitVec.ofNat 32 n.val) : Host.gather gather_S8x4096_S8x4096x1_S8x4096_n_1_0_0_1_2_11 x idx (ix2 b t) = x (ix2 b n) := by
  unfold Host.gather
  have hn := n.isLt
  refine congrArg x (funext fun a => Fin.ext ?_)
  match a with
  | ⟨0, _⟩ =>
    show GatherDims.start _ _ _ 0 + GatherDims.batchCoord _ _ 0 + GatherDims.offCoord _ _ 0 = b.val
    rw [GatherDims.start_batching _ _ _ _ (by decide), GatherDims.offCoord_eq_zero _ _ _ (by decide), Nat.zero_add, Nat.add_zero]
    rfl
  | ⟨1, _⟩ =>
    show GatherDims.start _ _ _ 1 + GatherDims.batchCoord _ _ 1 + GatherDims.offCoord _ _ 1 = n.val
    rw [GatherDims.batchCoord_eq_zero _ _ _ (by decide), GatherDims.offCoord_eq_zero _ _ _ (by decide), Nat.add_zero]
    unfold GatherDims.start
    rw [dif_pos (by decide)]
    have hsi : ∀ c, GatherDims.siIdx gather_S8x4096_S8x4096x1_S8x4096_n_1_0_0_1_2_11 (ix2 b t) c = (ix3 b t 0 : S8x4096x1.Idx) := fun c => by
      funext a'
      refine Fin.ext ?_
      match a' with
      | ⟨0, _⟩ => rfl
      | ⟨1, _⟩ => rfl
      | ⟨2, _⟩ => exact Nat.lt_one_iff.mp c.isLt
    rw [hsi, h]
    rw [position_toInt hn]
    show min n.val (4096 - 1) = n.val
    omega

/-- A take along the tokens of a rank-three array, one index per lane, reads the token its index names. -/
theorem take_rows_apply {α : Type} (x : S8x4096x1024.Idx → α) (idx : IVec S8x4096x1024x1 32) (b : Fin 8) (t n : Fin 4096) (d : Fin 1024)
    (h : idx (ix4 b t d 0) = BitVec.ofNat 32 n.val) :
    Host.gather gather_S8x4096x1024_S8x4096x1024x1_S8x4096x1024_n_1_02_02_1_3_111 x idx (ix3 b t d) = x (ix3 b n d) := by
  unfold Host.gather
  have hn := n.isLt
  refine congrArg x (funext fun a => Fin.ext ?_)
  match a with
  | ⟨0, _⟩ =>
    show GatherDims.start _ _ _ 0 + GatherDims.batchCoord _ _ 0 + GatherDims.offCoord _ _ 0 = b.val
    rw [GatherDims.start_batching _ _ _ _ (by decide), GatherDims.offCoord_eq_zero _ _ _ (by decide), Nat.zero_add, Nat.add_zero]
    rfl
  | ⟨1, _⟩ =>
    show GatherDims.start _ _ _ 1 + GatherDims.batchCoord _ _ 1 + GatherDims.offCoord _ _ 1 = n.val
    rw [GatherDims.batchCoord_eq_zero _ _ _ (by decide), GatherDims.offCoord_eq_zero _ _ _ (by decide), Nat.add_zero]
    unfold GatherDims.start
    rw [dif_pos (by decide)]
    have hsi : ∀ c, GatherDims.siIdx gather_S8x4096x1024_S8x4096x1024x1_S8x4096x1024_n_1_02_02_1_3_111 (ix3 b t d) c = (ix4 b t d 0 : S8x4096x1024x1.Idx) := fun c => by
      funext a'
      refine Fin.ext ?_
      match a' with
      | ⟨0, _⟩ => rfl
      | ⟨1, _⟩ => rfl
      | ⟨2, _⟩ => rfl
      | ⟨3, _⟩ => exact Nat.lt_one_iff.mp c.isLt
    rw [hsi, h]
    rw [position_toInt hn]
    show min n.val (4096 - 1) = n.val
    omega
  | ⟨2, _⟩ =>
    show GatherDims.start _ _ _ 2 + GatherDims.batchCoord _ _ 2 + GatherDims.offCoord _ _ 2 = d.val
    rw [GatherDims.start_batching _ _ _ _ (by decide), GatherDims.offCoord_eq_zero _ _ _ (by decide), Nat.zero_add, Nat.add_zero]
    rfl

/-- The running count along the tokens, where every entry is one: at token `t` it is `t + 1`. -/
theorem count_apply (x : IVec S8x4096 32) (init : IVec S_ 32) (hx : ∀ (b : Fin 8) (t : Fin 4096), x (ix2 b t) = 1#32)
    (hinit : ∀ i, init i = 0#32) (h : S8x4096.ReduceWindows (![1, 4096] : Fin 2 → Nat) ![1, 1] ![0, 4095] ![0, 0] S8x4096) (hu : 0 < S_.numel)
    (b : Fin 8) (t : Fin 4096) :
    Host.reduceWindow IntOp.addi ![1, 4096] ![1, 1] ![0, 4095] ![0, 0] x init h hu (ix2 b t) = BitVec.ofNat 32 (t.val + 1) := by
  have ht := t.isLt
  have hb := b.isLt
  have hnum : (⟨2, ![1, 4096]⟩ : Shape).numel = 4096 := by decide
  unfold Host.reduceWindow
  refine (Routing.foldl_addi_ofNat _ _ (fun n => if 4095 ≤ t.val + n.val then 1 else 0) (fun n _ => ?_) _ 0 (hinit _)).trans ?_
  · have hlt : n.val < 4096 := lt_of_lt_of_eq n.isLt hnum
    have e := Routing.symm22 (A := 1) (B := 4096) n (by omega) (by omega)
    have hw0 : ((⟨2, ![1, 4096]⟩ : Shape).rowMajor.symm n 0).val = 0 := by
      rw [e]
      show n.val / 4096 = 0
      omega
    have hw1 : ((⟨2, ![1, 4096]⟩ : Shape).rowMajor.symm n 1).val = n.val := by
      rw [e]
      show n.val % 4096 = n.val
      omega
    dsimp only
    split
    · next hin =>
      have h1 := hin 1
      change 4095 ≤ t.val * 1 + ((⟨2, ![1, 4096]⟩ : Shape).rowMajor.symm n 1).val
        ∧ t.val * 1 + ((⟨2, ![1, 4096]⟩ : Shape).rowMajor.symm n 1).val - 4095 < 4096 at h1
      rw [hw1] at h1
      rw [if_pos (by omega)]
      refine (congrArg x (funext fun a => Fin.ext ?_)).trans (hx b ⟨t.val + n.val - 4095, by omega⟩)
      match a with
      | ⟨0, _⟩ =>
        show b.val * 1 + ((⟨2, ![1, 4096]⟩ : Shape).rowMajor.symm n 0).val - 0 = b.val
        rw [hw0]
        omega
      | ⟨1, _⟩ =>
        show t.val * 1 + ((⟨2, ![1, 4096]⟩ : Shape).rowMajor.symm n 1).val - 4095 = t.val + n.val - 4095
        rw [hw1, Nat.mul_one]
    · next hin =>
      rw [if_neg fun hle => hin fun a => by
        match a with
        | ⟨0, _⟩ =>
          show 0 ≤ b.val * 1 + ((⟨2, ![1, 4096]⟩ : Shape).rowMajor.symm n 0).val
            ∧ b.val * 1 + ((⟨2, ![1, 4096]⟩ : Shape).rowMajor.symm n 0).val - 0 < 8
          rw [hw0]
          omega
        | ⟨1, _⟩ =>
          show 4095 ≤ t.val * 1 + ((⟨2, ![1, 4096]⟩ : Shape).rowMajor.symm n 1).val
            ∧ t.val * 1 + ((⟨2, ![1, 4096]⟩ : Shape).rowMajor.symm n 1).val - 4095 < 4096
          rw [hw1]
          omega]
      exact hinit _
  · have hsum : ∀ q : ℕ, q ≤ 4096 → ((List.range q).map fun w => if 4095 ≤ t.val + w then 1 else 0).sum = q - (4095 - t.val) := fun q => by
      induction q with
      | zero => intro _; simp
      | succ q ih =>
        intro hq
        rw [List.range_succ, List.map_append, List.sum_append, ih (by omega), List.map_singleton, List.sum_singleton]
        split <;> omega
    rw [Nat.zero_add, Routing.map_finRange_val _ (fun w => if 4095 ≤ t.val + w then 1 else 0), hnum, hsum 4096 le_rfl]
    congr 1
    omega

end Cert.Ema

end
-- ==== Proof.Ema.RefLoop.lean ====
/- The reference's loop: after `k` trips it has run each lane's recurrence `k` tokens from zero and written what it held after
   each of them. -/
module

public import proofs.«01_k».proof.Proof.Ema.RefOps
public import proofs.«01_k».proof.Proof.Ema.Recurrence
public import Idealize.ShloMosaic.Lib.Pointwise

@[expose] public section

noncomputable section

namespace Cert.Ema

open Idealize.ShloMosaic Cert.ReferenceIdeal Cert.ReferenceIdeal.Gen Cert.ReferenceIdeal.Value

/-- What the loop's buffers hold before trip `k`, of the gates `G` and the inputs `Y`. -/
structure BeforeTrip (G : Fin 8 → ℕ → EReal) (Y : Fin 8 → Fin 1024 → ℕ → EReal) (k : ℕ) (V : Valuation τ sig (Elt Ideal)) : Prop where
  gates : ∀ (t : Fin 4096) (b : Fin 8), V (Proc.devRef .tc main_v28_0) (ix2 t b : S4096x8.Idx) = G b t.val
  inputs : ∀ (t : Fin 4096) (b : Fin 8) (d : Fin 1024), V (Proc.devRef .tc main_v28_1) (ix3 t b d : S4096x8x1024.Idx) = Y b d t.val
  trip : V (Proc.devRef .tc main_v28_2) = fun _ => BitVec.ofNat 32 k
  state : ∀ (b : Fin 8) (d : Fin 1024), V (Proc.devRef .tc main_v28_3) (ix2 b d : S8x1024.Idx) = run 0 (G b) (Y b d) k
  written : ∀ (t : Fin 4096) (b : Fin 8) (d : Fin 1024), t.val < k →
    V (Proc.devRef .tc main_v28_4) (ix3 t b d : S4096x8x1024.Idx) = run 0 (G b) (Y b d) (t.val + 1)

variable {G : Fin 8 → ℕ → EReal} {Y : Fin 8 → Fin 1024 → ℕ → EReal} {k : ℕ} {V : Valuation τ sig (Elt Ideal)}

/-- Indices with equal coordinates are equal. -/
theorem ix3_congr {n₀ n₁ n₂ : ℕ} {a a' : Fin n₀} {b b' : Fin n₁} {c c' : Fin n₂} (ha : a = a') (hb : b = b') (hc : c = c') :
    ix3 a b c = ix3 a' b' c' := by
  rw [ha, hb, hc]

/-- One trip's arithmetic at batch `b` and lane `d`: the trip's gate times the state, plus the trip's input. -/
theorem advance_apply (hk : k < 4096) (x : FVec Ideal S4096x8 .f32) (y : FVec Ideal S4096x8x1024 .f32) (s : FVec Ideal S8x1024 .f32)
    (st : Fin S4096x8.rank → Int) (st' : Fin S4096x8x1024.rank → Int) (h0 : st 0 = k) (h1 : st 1 = 0) (h0' : st' 0 = k) (h1' : st' 1 = 0)
    (h2' : st' 2 = 0) (b : Fin 8) (d : Fin 1024) :
    addf (mulf (broadcastInDim S8x1024 ![0, 1] bcast_S8x1_S8x1024_0_1 (broadcastInDim S8x1 ![0] bcast_S8_S8x1_0
      (shapeCast S8 (Host.dynamicSlice S1x8 x st sliceFits_S4096x8_S1x8) shapeCasts_S1x8_S8))) s)
      (shapeCast S8x1024 (Host.dynamicSlice S1x8x1024 y st' sliceFits_S4096x8x1024_S1x8x1024) shapeCasts_S1x8x1024_S8x1024) (ix2 b d)
      = x (ix2 ⟨k, hk⟩ b) * s (ix2 b d) + y (ix3 ⟨k, hk⟩ b d) := by
  pointwise
  have e : ∀ (z : ℕ) (n : ℕ), z = 0 → z + n = n := fun z n h => by rw [h, Nat.zero_add]
  have e0 : ∀ hr, Host.clampedStart S4096x8 S1x8 hr st 0 = k := fun hr =>
    Host.clampedStart_of_le _ _ _ _ h0 (by show k + 1 ≤ 4096; omega)
  have e1 : ∀ hr, Host.clampedStart S4096x8 S1x8 hr st 1 = 0 := fun hr =>
    Host.clampedStart_of_le _ _ _ 0 h1 (by show 0 + 8 ≤ 8; omega)
  have e0' : ∀ hr, Host.clampedStart S4096x8x1024 S1x8x1024 hr st' 0 = k := fun hr =>
    Host.clampedStart_of_le _ _ _ _ h0' (by show k + 1 ≤ 4096; omega)
  have e1' : ∀ hr, Host.clampedStart S4096x8x1024 S1x8x1024 hr st' 1 = 0 := fun hr =>
    Host.clampedStart_of_le _ _ _ 0 h1' (by show 0 + 8 ≤ 8; omega)
  have e2' : ∀ hr, Host.clampedStart S4096x8x1024 S1x8x1024 hr st' 2 = 0 := fun hr =>
    Host.clampedStart_of_le _ _ _ 0 h2' (by show 0 + 1024 ≤ 1024; omega)
  exact congrArg₂ (· + ·) (congrArg (· * s (ix2 b d)) (congrArg x (congrArg₂ ix2 (Fin.ext (e0 rfl)) (Fin.ext (e _ _ (e1 rfl))))))
    (congrArg y (ix3_congr (Fin.ext (e0' rfl)) (Fin.ext (e _ _ (e1' rfl))) (Fin.ext (e _ _ (e2' rfl)))))

/-- Writing one token's row over an array: that token's row is the new one, the others stay. -/
theorem write_apply (hk : k < 4096) (x : FVec Ideal S4096x8x1024 .f32) (r : FVec Ideal S8x1024 .f32) (st : Fin S4096x8x1024.rank → Int)
    (h0 : st 0 = k) (h1 : st 1 = 0) (h2 : st 2 = 0) (t : Fin 4096) (b : Fin 8) (d : Fin 1024) :
    Host.dynamicUpdateSlice x (broadcastInDim S1x8x1024 ![1, 2] bcast_S8x1024_S1x8x1024_1_2 r) st updateFits_S4096x8x1024_S1x8x1024 (ix3 t b d)
      = if t.val = k then r (ix2 b d) else x (ix3 t b d) := by
  rw [Host.dynamicUpdateSlice_apply]
  have e0 : ∀ hr, Host.clampedStart S4096x8x1024 S1x8x1024 hr st 0 = k := fun hr =>
    Host.clampedStart_of_le _ _ _ _ h0 (by show k + 1 ≤ 4096; omega)
  have e1 : ∀ hr, Host.clampedStart S4096x8x1024 S1x8x1024 hr st 1 = 0 := fun hr =>
    Host.clampedStart_of_le _ _ _ 0 h1 (by show 0 + 8 ≤ 8; omega)
  have e2 : ∀ hr, Host.clampedStart S4096x8x1024 S1x8x1024 hr st 2 = 0 := fun hr =>
    Host.clampedStart_of_le _ _ _ 0 h2 (by show 0 + 1024 ≤ 1024; omega)
  have hb := b.isLt
  have hd := d.isLt
  by_cases htk : t.val = k
  · rw [if_pos htk, dif_pos fun a => by
      match a with
      | ⟨0, _⟩ =>
        show Host.clampedStart _ _ _ _ 0 ≤ t.val ∧ t.val < Host.clampedStart _ _ _ _ 0 + 1
        rw [e0]
        omega
      | ⟨1, _⟩ =>
        show Host.clampedStart _ _ _ _ 1 ≤ b.val ∧ b.val < Host.clampedStart _ _ _ _ 1 + 8
        rw [e1]
        omega
      | ⟨2, _⟩ =>
        show Host.clampedStart _ _ _ _ 2 ≤ d.val ∧ d.val < Host.clampedStart _ _ _ _ 2 + 1024
        rw [e2]
        omega]
    pointwise
    refine congrArg r (congrArg₂ ix2 (Fin.ext ?_) (Fin.ext ?_))
    · show b.val - Host.clampedStart _ _ _ _ 1 = b.val
      rw [e1]
      omega
    · show d.val - Host.clampedStart _ _ _ _ 2 = d.val
      rw [e2]
      omega
  · rw [if_neg htk, dif_neg fun hin => by
      have h0 := hin 0
      change Host.clampedStart _ _ _ _ 0 ≤ t.val ∧ t.val < Host.clampedStart _ _ _ _ 0 + 1 at h0
      rw [e0] at h0
      omega]

/-- The state a trip makes is the recurrence one token on. -/
theorem trip_state (h : BeforeTrip G Y k V) (hk : k < 4096) (b : Fin 8) (d : Fin 1024) :
    res_main_while0b_v36 V (ix2 b d : S8x1024.Idx) = run 0 (G b) (Y b d) (k + 1) := by
  unfold res_main_while0b_v36
  rw [h.trip]
  refine (advance_apply hk _ _ _ _ _ (position_toInt hk) rfl (position_toInt hk) rfl rfl b d).trans ?_
  exact congrArg₂ (· + ·) (congrArg₂ (· * ·) (h.gates ⟨k, hk⟩ b) (h.state b d)) (h.inputs ⟨k, hk⟩ b d)

/-- A trip writes its state over the token it is at and leaves the other tokens. -/
theorem trip_written (h : BeforeTrip G Y k V) (hk : k < 4096) (t : Fin 4096) (b : Fin 8) (d : Fin 1024) (ht : t.val < k + 1) :
    step_main_v28_4 V (ix3 t b d : S4096x8x1024.Idx) = run 0 (G b) (Y b d) (t.val + 1) := by
  unfold step_main_v28_4
  rw [h.trip]
  refine (write_apply hk _ _ _ (position_toInt hk) rfl rfl t b d).trans ?_
  split
  · next htk => rw [htk, ← trip_state h hk b d]
  · next htk => exact h.written t b d (by omega)

/-- One trip. -/
theorem BeforeTrip.step (h : BeforeTrip G Y k V) (hk : k < 4096) : BeforeTrip G Y (k + 1) (STEP V) where
  gates t b := (congrFun (STEP_main_v28_0 V) _).trans (h.gates t b)
  inputs t b d := (congrFun (STEP_main_v28_1 V) _).trans (h.inputs t b d)
  trip := by
    rw [STEP_main_v28_2]
    unfold step_main_v28_2
    rw [h.trip]
    funext i
    show BitVec.ofNat 32 k + 1#32 = BitVec.ofNat 32 (k + 1)
    rw [BitVec.ofNat_add]
  state b d := (congrFun (STEP_main_v28_3 V) _).trans (trip_state h hk b d)
  written t b d ht := (congrFun (STEP_main_v28_4 V) _).trans (trip_written h hk t b d ht)

/-- All the trips up to `n`. -/
theorem BeforeTrip.steps (h : BeforeTrip G Y 0 V) : ∀ n, n ≤ 4096 → BeforeTrip G Y n (STEP^[n] V)
  | 0, _ => h
  | n + 1, hn => by
    rw [Function.iterate_succ_apply']
    exact (BeforeTrip.steps h n (by omega)).step (by omega)

end Cert.Ema

end
-- ==== Proof.Ema.RefEntry.lean ====
/- What the reference's buffers hold when its loop starts, where every token is a boundary: the weights are the clamped scores in
   their own order, the gates one less the weight, the inputs the weight times the token, and each token's index is its own. -/
module

public import proofs.«01_k».proof.Proof.Ema.RefLoop
public import proofs.«01_k».proof.Proof.Ema.Sequence
public import Idealize.ShloMosaic.Lib.StableHlo.RunClose

@[expose] public section

noncomputable section

namespace Cert.Ema

open Idealize.ShloMosaic Idealize.ShloMosaic.StableHlo Cert.ReferenceIdeal Cert.ReferenceIdeal.Gen Cert.ReferenceIdeal.Value

variable {F : FTy → Type} [FloatOps F]

/-- A token index as the take reads it: a negative one counts from the end. -/
def wrapped (idx : IVec S8x4096 32) : IVec S8x4096x1 32 :=
  shapeCast S8x4096x1 (select (cmpi .slt idx (broadcastInDim S8x4096 ![] bcast_S_S8x4096 (constantI S_ 32 0#32)))
    (addi idx (broadcastInDim S8x4096 ![] bcast_S_S8x4096 (constantI S_ 32 4096#32))) idx) shapeCasts_S8x4096_S8x4096x1

/-- The take along the tokens, guarded against an index outside them. -/
def taken (x : FVec F S8x4096 .f32) (idx : IVec S8x4096 32) : FVec F S8x4096 .f32 :=
  select (Host.reduce IntOp.andi (andi (cmpi .sge (wrapped idx) (broadcastInDim S8x4096x1 ![] bcast_S_S8x4096x1 (constantI S_ 32 0#32)))
      (cmpi .sle (wrapped idx) (broadcastInDim S8x4096x1 ![0, 1, 2] bcast_S1x1x1_S8x4096x1_0_1_2 (broadcastInDim S1x1x1 ![2] bcast_S1_S1x1x1_2 (constantI S1 32 4095#32)))))
      (constantI S_ 1 1#1) reducesTo_S8x4096x1_S8x4096_d2 h_S_)
    (Host.gather gather_S8x4096_S8x4096x1_S8x4096_n_1_0_0_1_2_11 x (wrapped idx))
    (broadcastInDim S8x4096 ![] bcast_S_S8x4096 (constant S_ .f32 0x7FC00000#32))

/-- Each token's own index, wrapped, is that index. -/
theorem wrapped_apply (idx : IVec S8x4096 32) (h : ∀ (b : Fin 8) (t : Fin 4096), idx (ix2 b t) = BitVec.ofNat 32 t.val) (b : Fin 8) (t : Fin 4096) :
    wrapped idx (ix3 b t 0) = BitVec.ofNat 32 t.val := by
  have ht := t.isLt
  unfold wrapped
  pointwise
  rw [h, (WordCmp.cmpi_slt_ofNat_eq_zero_iff (a := t.val) (b := 0) (by omega) (by omega)).mpr (by omega)]
  rfl

/-- Taking each token's own index reads the token. -/
theorem taken_apply (x : FVec F S8x4096 .f32) (idx : IVec S8x4096 32) (h : ∀ (b : Fin 8) (t : Fin 4096), idx (ix2 b t) = BitVec.ofNat 32 t.val)
    (b : Fin 8) (t : Fin 4096) : taken x idx (ix2 b t) = x (ix2 b t) := by
  unfold taken
  show Scalar.select (Host.reduce _ _ _ _ _ (ix2 b t)) (Host.gather _ _ _ (ix2 b t)) _ = _
  rw [Host.reduce_andi_one _ _ _ _ _ rfl fun i => ?_, take_apply x _ b t t (wrapped_apply idx h b t)]
  · rfl
  · obtain ⟨b', t', z, rfl⟩ : ∃ (b' : Fin 8) (t' : Fin 4096) (z : Fin 1), i = ix3 b' t' z := ⟨i 0, i 1, i 2, by
      funext a
      match a with
      | ⟨0, _⟩ => rfl
      | ⟨1, _⟩ => rfl
      | ⟨2, _⟩ => rfl⟩
    obtain rfl : z = 0 := Subsingleton.elim _ _
    have ht := t'.isLt
    pointwise
    rw [wrapped_apply idx h, (WordCmp.cmpi_sge_ofNat_eq_one_iff (a := t'.val) (b := 0) (by omega) (by omega)).mpr (by omega),
      (WordCmp.cmpi_sle_ofNat_eq_one_iff (a := t'.val) (b := 4095) (by omega) (by omega)).mpr (by omega)]
    rfl

variable (V : Valuation τ sig (Elt F))

/-- The clamped scores. -/
theorem after_clip : after hostOps0_1 (after hostOps0 V) (Proc.devRef .tc main_v2)
    = minimumf (broadcastInDim S8x4096 ![] bcast_S_S8x4096 (constant S_ .f32 0x3F7FF972#32))
      (maximumf (broadcastInDim S8x4096 ![] bcast_S_S8x4096 (constant S_ .f32 0x38D1B717#32))
        (shapeCast S8x4096 (extractStridedSlice S8x4096x1 ![0, 0, 1] (V (Proc.devRef .tc main_arg2)) slices_S8x4096x2_S8x4096x1_0_0_1) shapeCasts_S8x4096x1_S8x4096)) := by
  simp only [hostOps0_1, hostOps0]
  after_results_entrywise []

/-- The sort's keys. -/
theorem after_keys : after hostOps0_2 V (Proc.devRef .tc main_v10)
    = addi (broadcastInDim S8x4096 ![0, 1] bcast_S1x4096_S8x4096_0_1 (broadcastInDim S1x4096 ![1] bcast_S4096_S1x4096_1 (iotaInDim S4096 32 0)))
      (muli (extui 32 (noti (V (Proc.devRef .tc main_arg1))) natLt_1_32) (broadcastInDim S8x4096 ![] bcast_S_S8x4096 (constantI S_ 32 4096#32))) := by
  simp only [hostOps0_2]
  after_results_entrywise []

/-- The order the sort puts the tokens in. -/
theorem after_order : after hostOps0_3 V (Proc.devRef .tc main_v11)
    = (Host.sort2 S8x4096 1 comparator_i32_i32_d1 (V (Proc.devRef .tc main_v10)) (iotaInDim S8x4096 32 1)).2 := by
  simp only [hostOps0_3]
  after_results_entrywise []

/-- The weights in that order. -/
theorem after_taken : after hostOps0_4 V (Proc.devRef .tc main_v12) = taken (V (Proc.devRef .tc main_v2)) (V (Proc.devRef .tc main_v11)) := by
  unfold taken wrapped
  after_reads_simp
  simp -implicitDefEqProofs only [TRef.toBuf, TRef.ofBuf, cast_cast, cast_eq]
  rfl

/-- The mask as words. -/
theorem after_mask : after hostOps0_5 V (Proc.devRef .tc main_v13) = extui 32 (V (Proc.devRef .tc main_arg1)) natLt_1_32 := by
  simp only [hostOps0_5]
  after_results_entrywise []

/-- The running count of boundaries. -/
theorem after_count : after hostOps0_6 V (Proc.devRef .tc main_v14)
    = Host.reduceWindow IntOp.addi ![1, 4096] ![1, 1] ![0, 4095] ![0, 0] (V (Proc.devRef .tc main_v13))
        (broadcastInDim S_ ![] bcast_S_S_ (constantI S_ 32 0#32)) reduceWindows_S8x4096_S8x4096_w1s1p0_0_w4096s1p4095_0 h_S_ := by
  after_reads_simp
  simp -implicitDefEqProofs only [TRef.toBuf, TRef.ofBuf, cast_cast, cast_eq]

/-- The position of each token's boundary, per lane. -/
theorem after_index : after hostOps0_7 V (Proc.devRef .tc main_v18)
    = broadcastInDim S8x4096x1024 ![0, 1, 2] bcast_S8x4096x1_S8x4096x1024_0_1_2 (broadcastInDim S8x4096x1 ![0, 1] bcast_S8x4096_S8x4096x1_0_1
      (subi (V (Proc.devRef .tc main_v14)) (broadcastInDim S8x4096 ![] bcast_S_S8x4096 (constantI S_ 32 1#32)))) := by
  simp only [hostOps0_7]
  after_results_entrywise []

/-- The gates, tokens first. -/
theorem after_gates : after hostOps0_7 V (Proc.devRef .tc main_v28_0)
    = transpose S4096x8 [1, 0] (subf (broadcastInDim S8x4096 ![] bcast_S_S8x4096 (constant S_ .f32 0x3F800000#32)) (V (Proc.devRef .tc main_v12)))
      transposes_S8x4096_S4096x8_1_0 := by
  simp only [hostOps0_7]
  after_results_entrywise []

/-- The inputs, tokens first. -/
theorem after_inputs : after hostOps0_7 V (Proc.devRef .tc main_v28_1)
    = transpose S4096x8x1024 [1, 0, 2] (mulf (broadcastInDim S8x4096x1024 ![0, 1, 2] bcast_S8x4096x1_S8x4096x1024_0_1_2
      (broadcastInDim S8x4096x1 ![0, 1] bcast_S8x4096_S8x4096x1_0_1 (V (Proc.devRef .tc main_v12)))) (V (Proc.devRef .tc main_arg0)))
      transposes_S8x4096x1024_S4096x8x1024_1_0_2 := by
  simp only [hostOps0_7]
  after_results_entrywise []

/-- The starting state. -/
theorem after_state : after hostOps0_7 V (Proc.devRef .tc main_v28_3) = broadcastInDim S8x1024 ![] bcast_S_S8x1024 (constant S_ .f32 0x00000000#32) := by
  simp only [hostOps0_7]
  after_results_entrywise []

end Cert.Ema

end
-- ==== Proof.Ema.RefStart.lean ====
/- The reference's loop at its start: from a launch whose mask is all ones its buffers are those of the recurrence before any token. -/
module

public import proofs.«01_k».proof.Proof.Ema.RefEntry

@[expose] public section

noncomputable section

namespace Cert.Ema

open Idealize.ShloMosaic Idealize.ShloMosaic.StableHlo Cert.ReferenceIdeal Cert.ReferenceIdeal.Gen Cert.ReferenceIdeal.Value

variable (U : Valuation τ sig (Elt Ideal))

/-- The contents once the sort's keys are made. -/
abbrev keyed : Valuation τ sig (Elt Ideal) := after hostOps0_2 (after hostOps0_1 (after hostOps0 U))

/-- The contents once the weights are taken. -/
abbrev weighted : Valuation τ sig (Elt Ideal) := after hostOps0_4 (after hostOps0_3 (keyed U))

/-- The contents once the boundaries are counted. -/
abbrev counted : Valuation τ sig (Elt Ideal) := after hostOps0_6 (after hostOps0_5 (weighted U))

/-- The launch's arguments are as they were. -/
theorem counted_tokens : counted U (Proc.devRef .tc main_arg0) = U (Proc.devRef .tc main_arg0) :=
  (after_of_writes_sub hostOps0_6 _ hostOps0_6_writes (by decide)).trans <| (after_of_writes_sub hostOps0_5 _ hostOps0_5_writes (by decide)).trans <|
  (after_of_writes_sub hostOps0_4 _ hostOps0_4_writes (by decide)).trans <| (after_of_writes_sub hostOps0_3 _ hostOps0_3_writes (by decide)).trans <|
  (after_of_writes_sub hostOps0_2 _ hostOps0_2_writes (by decide)).trans <| (after_of_writes_sub hostOps0_1 _ hostOps0_1_writes (by decide)).trans <|
  after_of_writes_sub hostOps0 _ hostOps0_writes (by decide)

theorem clipped_mask : after hostOps0_1 (after hostOps0 U) (Proc.devRef .tc main_arg1) = U (Proc.devRef .tc main_arg1) :=
  (after_of_writes_sub hostOps0_1 _ hostOps0_1_writes (by decide)).trans <| after_of_writes_sub hostOps0 _ hostOps0_writes (by decide)

theorem weighted_mask : weighted U (Proc.devRef .tc main_arg1) = U (Proc.devRef .tc main_arg1) :=
  (after_of_writes_sub hostOps0_4 _ hostOps0_4_writes (by decide)).trans <| (after_of_writes_sub hostOps0_3 _ hostOps0_3_writes (by decide)).trans <|
  (after_of_writes_sub hostOps0_2 _ hostOps0_2_writes (by decide)).trans <| clipped_mask U

/-- The clamped score of a token. -/
theorem clip_apply (b : Fin 8) (t : Fin 4096) :
    after hostOps0_1 (after hostOps0 U) (Proc.devRef .tc main_v2) (ix2 b t : S8x4096.Idx) = tokenWeight (U (Proc.devRef .tc main_arg2)) b t.val := by
  rw [after_clip]
  unfold tokenWeight weight
  rw [dif_pos t.isLt]
  pointwise

variable (hmask : U (Proc.devRef .tc main_arg1) = fun _ => (1#1 : BitVec 1))
include hmask

/-- The key of a token is its position. -/
theorem keys_apply (b : Fin 8) (t : Fin 4096) : keyed U (Proc.devRef .tc main_v10) (ix2 b t : S8x4096.Idx) = BitVec.ofNat 32 t.val := by
  unfold keyed
  rw [after_keys, clipped_mask, hmask]
  pointwise
  exact BitVec.add_zero _

/-- The token the sort puts at a position is the one that was there. -/
theorem order_apply (b : Fin 8) (t : Fin 4096) : after hostOps0_3 (keyed U) (Proc.devRef .tc main_v11) (ix2 b t : S8x4096.Idx) = BitVec.ofNat 32 t.val := by
  rw [after_order]
  refine (argsort_apply _ _ (keys_apply U hmask) b t).trans ?_
  pointwise

/-- The weight of a token. -/
theorem weights_apply (b : Fin 8) (t : Fin 4096) :
    weighted U (Proc.devRef .tc main_v12) (ix2 b t : S8x4096.Idx) = tokenWeight (U (Proc.devRef .tc main_arg2)) b t.val := by
  unfold weighted
  rw [after_taken]
  refine (taken_apply _ _ (order_apply U hmask) b t).trans ?_
  unfold keyed
  rw [after_of_writes_sub hostOps0_3 _ hostOps0_3_writes (by decide), after_of_writes_sub hostOps0_2 _ hostOps0_2_writes (by decide)]
  exact clip_apply U b t

theorem counted_weights (b : Fin 8) (t : Fin 4096) :
    counted U (Proc.devRef .tc main_v12) (ix2 b t : S8x4096.Idx) = tokenWeight (U (Proc.devRef .tc main_arg2)) b t.val := by
  unfold counted
  rw [after_of_writes_sub hostOps0_6 _ hostOps0_6_writes (by decide), after_of_writes_sub hostOps0_5 _ hostOps0_5_writes (by decide)]
  exact weights_apply U hmask b t

/-- The boundaries up to and with a token are as many as the tokens. -/
theorem count_boundaries (b : Fin 8) (t : Fin 4096) : counted U (Proc.devRef .tc main_v14) (ix2 b t : S8x4096.Idx) = BitVec.ofNat 32 (t.val + 1) := by
  unfold counted
  rw [after_count, after_mask, weighted_mask, hmask]
  exact count_apply _ _ (fun _ _ => rfl) (fun _ => rfl) _ _ b t

/-- The last boundary up to a token is the token. -/
theorem index_apply (b : Fin 8) (t : Fin 4096) (d : Fin 1024) :
    after hostOps0_7 (counted U) (Proc.devRef .tc main_v18) (ix3 b t d : S8x4096x1024.Idx) = BitVec.ofNat 32 t.val := by
  have ht := t.isLt
  rw [after_index]
  pointwise
  rw [count_boundaries U hmask]
  show BitVec.ofNat 32 (t.val + 1) - 1#32 = BitVec.ofNat 32 t.val
  rw [BitVec.ofNat_add, BitVec.add_sub_cancel]

/-- Before the first trip. -/
theorem before_first : BeforeTrip (fun b n => 1 - tokenWeight (U (Proc.devRef .tc main_arg2)) b n)
    (fun b d n => tokenWeight (U (Proc.devRef .tc main_arg2)) b n * tokenRow (U (Proc.devRef .tc main_arg0)) b d n) 0
    (after hostOps0_7 (counted U)) where
  gates t b := by
    rw [after_gates]
    pointwise
    rw [counted_weights U hmask]
  inputs t b d := by
    rw [after_inputs]
    pointwise
    rw [counted_weights U hmask, counted_tokens]
    unfold tokenRow
    rw [dif_pos t.isLt]
  trip := by
    after_reads_simp
    rfl
  state b d := by
    rw [after_state]
    pointwise
    rfl
  written t b d h := absurd h (Nat.not_lt_zero _)

end Cert.Ema

end
-- ==== Proof.Ema.RefOut.lean ====
/- The reference's result: what its loop wrote, each token reading its own row, so at batch `b`, token `t` and lane `d` the
   recurrence of that lane run `t + 1` tokens from zero. -/
module

public import proofs.«01_k».proof.Proof.Ema.RefStart

@[expose] public section

noncomputable section

namespace Cert.Ema

open Idealize.ShloMosaic Idealize.ShloMosaic.StableHlo Idealize.ShloMosaic.TcCoe Idealize.SL.Sem Cert.ReferenceIdeal Cert.ReferenceIdeal.Gen Cert.ReferenceIdeal.Value

section Rows

variable {F : FTy → Type} [FloatOps F]

/-- A row index as the second take reads it: a negative one counts from the end. -/
def wrappedRows (idx : IVec S8x4096x1024 32) : IVec S8x4096x1024x1 32 :=
  shapeCast S8x4096x1024x1 (select (cmpi .slt idx (broadcastInDim S8x4096x1024 ![] bcast_S_S8x4096x1024 (constantI S_ 32 0#32)))
    (addi idx (broadcastInDim S8x4096x1024 ![] bcast_S_S8x4096x1024 (constantI S_ 32 4096#32))) idx) shapeCasts_S8x4096x1024_S8x4096x1024x1

/-- The take of rows, guarded against an index outside them. -/
def takenRows (x : FVec F S8x4096x1024 .f32) (idx : IVec S8x4096x1024 32) : FVec F S8x4096x1024 .f32 :=
  select (Host.reduce IntOp.andi (andi (cmpi .sge (wrappedRows idx) (broadcastInDim S8x4096x1024x1 ![] bcast_S_S8x4096x1024x1 (constantI S_ 32 0#32)))
      (cmpi .sle (wrappedRows idx) (broadcastInDim S8x4096x1024x1 ![0, 1, 2, 3] bcast_S1x1x1x1_S8x4096x1024x1_0_1_2_3
        (broadcastInDim S1x1x1x1 ![3] bcast_S1_S1x1x1x1_3 (constantI S1 32 4095#32)))))
      (constantI S_ 1 1#1) reducesTo_S8x4096x1024x1_S8x4096x1024_d3 h_S_)
    (Host.gather gather_S8x4096x1024_S8x4096x1024x1_S8x4096x1024_n_1_02_02_1_3_111 x (wrappedRows idx))
    (broadcastInDim S8x4096x1024 ![] bcast_S_S8x4096x1024 (constant S_ .f32 0x7FC00000#32))

/-- Each token's own index, wrapped, is that index. -/
theorem wrappedRows_apply (idx : IVec S8x4096x1024 32)
    (h : ∀ (b : Fin 8) (t : Fin 4096) (d : Fin 1024), idx (ix3 b t d) = BitVec.ofNat 32 t.val) (b : Fin 8) (t : Fin 4096) (d : Fin 1024) :
    wrappedRows idx (ix4 b t d 0) = BitVec.ofNat 32 t.val := by
  have ht := t.isLt
  unfold wrappedRows
  pointwise
  rw [h, (WordCmp.cmpi_slt_ofNat_eq_zero_iff (a := t.val) (b := 0) (by omega) (by omega)).mpr (by omega)]
  rfl

/-- Taking each token's own row reads the token. -/
theorem takenRows_apply (x : FVec F S8x4096x1024 .f32) (idx : IVec S8x4096x1024 32)
    (h : ∀ (b : Fin 8) (t : Fin 4096) (d : Fin 1024), idx (ix3 b t d) = BitVec.ofNat 32 t.val) (b : Fin 8) (t : Fin 4096) (d : Fin 1024) :
    takenRows x idx (ix3 b t d) = x (ix3 b t d) := by
  unfold takenRows
  show Scalar.select (Host.reduce _ _ _ _ _ (ix3 b t d)) (Host.gather _ _ _ (ix3 b t d)) _ = _
  rw [Host.reduce_andi_one _ _ _ _ _ rfl fun i => ?_, take_rows_apply x _ b t t d (wrappedRows_apply idx h b t d)]
  · rfl
  · obtain ⟨b', t', d', z, rfl⟩ : ∃ (b' : Fin 8) (t' : Fin 4096) (d' : Fin 1024) (z : Fin 1), i = ix4 b' t' d' z := ⟨i 0, i 1, i 2, i 3, by
      funext a
      match a with
      | ⟨0, _⟩ => rfl
      | ⟨1, _⟩ => rfl
      | ⟨2, _⟩ => rfl
      | ⟨3, _⟩ => rfl⟩
    obtain rfl : z = 0 := Subsingleton.elim _ _
    have ht := t'.isLt
    pointwise
    rw [wrappedRows_apply idx h, (WordCmp.cmpi_sge_ofNat_eq_one_iff (a := t'.val) (b := 0) (by omega) (by omega)).mpr (by omega),
      (WordCmp.cmpi_sle_ofNat_eq_one_iff (a := t'.val) (b := 4095) (by omega) (by omega)).mpr (by omega)]
    rfl

variable (V : Valuation τ sig (Elt F))

/-- What the operations after the loop make of what it wrote. -/
theorem after_loop : afterL postI V (Proc.devRef .tc main_v30)
    = takenRows (transpose S8x4096x1024 [1, 0, 2] (V (Proc.devRef .tc main_v28_4)) transposes_S4096x8x1024_S8x4096x1024_1_0_2)
      (V (Proc.devRef .tc main_v18)) := by
  unfold takenRows wrappedRows
  simp only [postI, afterL_cons, afterL_nil]
  after_reads_simp
  simp -implicitDefEqProofs only [TRef.toBuf, TRef.ofBuf, cast_cast, cast_eq]
  rfl

/-- And the arguments are as they were. -/
theorem after_loop_keeps : afterL postI V (Proc.devRef .tc main_arg0) = V (Proc.devRef .tc main_arg0)
    ∧ afterL postI V (Proc.devRef .tc main_arg1) = V (Proc.devRef .tc main_arg1)
    ∧ afterL postI V (Proc.devRef .tc main_arg2) = V (Proc.devRef .tc main_arg2) := by
  simp only [postI, afterL_cons, afterL_nil]
  refine ⟨?_, ?_, ?_⟩ <;> after_reads_simp

/-- A buffer that no operation of the loop writes. -/
abbrev Untouched (r : Ref sig .tc) : Prop :=
  r ∉ condOps_W ∧ r ∉ while0Ops0_W ∧ r ∉ while0Ops0_1_W ∧ r ∉ while0Ops0_2_W ∧ r ∉ while0Ops0_3_W ∧ r ∉ while0Ops0_4_W

/-- Such a buffer is as it was through a trip. -/
theorem trip_keeps (r : Ref sig .tc) (h : Untouched r) : afterL bodyI (after condOps V) (Proc.devRef .tc r) = V (Proc.devRef .tc r) :=
  (after_of_writes_sub while0Ops0_4 _ while0Ops0_4_writes h.2.2.2.2.2).trans <| (after_of_writes_sub while0Ops0_3 _ while0Ops0_3_writes h.2.2.2.2.1).trans <|
  (after_of_writes_sub while0Ops0_2 _ while0Ops0_2_writes h.2.2.2.1).trans <| (after_of_writes_sub while0Ops0_1 _ while0Ops0_1_writes h.2.2.1).trans <|
  (after_of_writes_sub while0Ops0 _ while0Ops0_writes h.2.1).trans <| after_of_writes_sub condOps _ condOps_writes h.1

variable (m : (ℓ : Loc nD τ sig) → Buf (Elt F) ℓ) (c : Dev nD)

/-- And through every trip. -/
theorem loop_keeps (r : Ref sig .tc) (h : Untouched r) : ∀ k, atK m k c (Proc.devRef .tc r) = entryContents preI m c (Proc.devRef .tc r)
  | 0 => rfl
  | k + 1 => (trip_keeps (atK m k c) r h).trans (loop_keeps r h k)

/-- A buffer no operation writes is at the end as the launch left it. -/
theorem final_keeps (r : Ref sig .tc) (h : Untouched r) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W)
    (hpost : ∀ V : Valuation τ sig (Elt F), afterL postI V (Proc.devRef .tc r) = V (Proc.devRef .tc r)) :
    finalContents condOps preI bodyI postI 4096 m c (Proc.devRef .tc r) = m ((c : Thread nD τ).loc r) :=
  (hpost _).trans <|
  (after_of_writes_sub condOps _ condOps_writes h.1).trans <| (loop_keeps m c r h 4096).trans <|
  (after_of_writes_sub hostOps0_7 _ hostOps0_7_writes h7).trans <| (after_of_writes_sub hostOps0_6 _ hostOps0_6_writes h6).trans <|
  (after_of_writes_sub hostOps0_5 _ hostOps0_5_writes h5).trans <| (after_of_writes_sub hostOps0_4 _ hostOps0_4_writes h4).trans <|
  (after_of_writes_sub hostOps0_3 _ hostOps0_3_writes h3).trans <| (after_of_writes_sub hostOps0_2 _ hostOps0_2_writes h2).trans <|
  (after_of_writes_sub hostOps0_1 _ hostOps0_1_writes h1).trans <| after_of_writes_sub hostOps0 _ hostOps0_writes h0

end Rows

variable (m : (ℓ : Loc nD τ sig) → Buf (Elt Ideal) ℓ) (ρ : Dev nD → PrngReg)

/-- The reference's result at an index, from a launch whose mask is all ones. -/
theorem final_value (c : Dev nD) (hmask : m ((c : Thread nD τ).loc main_arg1) = fun _ => (1#1 : BitVec 1)) (b : Fin 8) (t : Fin 4096) (d : Fin 1024) :
    finalContents condOps preI bodyI postI 4096 m c (Proc.devRef .tc main_v30) (ix3 b t d : S8x4096x1024.Idx)
      = average (m ((c : Thread nD τ).loc main_arg2)) (m ((c : Thread nD τ).loc main_arg0)) b d (t.val + 1) := by
  have hrun := (before_first (launchContents m c) hmask).steps 4096 le_rfl
  unfold finalContents
  rw [after_loop]
  refine (takenRows_apply _ _ (fun b' t' d' => ?_) b t d).trans ?_
  · rw [after_of_writes_sub condOps _ condOps_writes (by decide)]
    refine (congrFun (loop_keeps m c main_v18 (by decide) 4096) _).trans ?_
    exact index_apply (launchContents m c) hmask b' t' d'
  · rw [after_of_writes_sub condOps _ condOps_writes (by decide)]
    pointwise
    refine (congrFun (atK_agree m c 4096 main_v28_4 (by decide)) _).trans ?_
    exact hrun.written t b d t.isLt

/-- The reference's run: the result is the fold's, and every argument is as it was. -/
theorem reference_run : θ_run (defs (F := Ideal)) (onTc (τ := τ) (main (F := Ideal))) ⟨m, fun _ => 0, ρ⟩ fun r => ∀ c : Dev nD,
      r.2.mem ((c : Thread nD τ).loc main_v30) = finalContents condOps preI bodyI postI 4096 m c (Proc.devRef .tc main_v30)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨h c main_v30 rfl,
    (h c main_arg0 rfl).trans (final_keeps m c main_arg0 (by decide) (by decide) (by decide) (by decide) (by decide) (by decide) (by decide) (by decide) (by decide) fun V => (after_loop_keeps V).1),
    (h c main_arg1 rfl).trans (final_keeps m c main_arg1 (by decide) (by decide) (by decide) (by decide) (by decide) (by decide) (by decide) (by decide) (by decide) fun V => (after_loop_keeps V).2.1),
    (h c main_arg2 rfl).trans (final_keeps m c main_arg2 (by decide) (by decide) (by decide) (by decide) (by decide) (by decide) (by decide) (by decide) (by decide) fun V => (after_loop_keeps V).2.2)⟩)
    (run_fold m ρ)

end Cert.Ema

end
-- ==== Proof.lean ====
/- The certificate. The kernel's result array and the reference's, read at an index, are the same average of the same
   arguments; the frames are the kernel's own and the reference's run weakened. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ema.Sequence
public import proofs.«01_k».proof.Proof.Ema.RefOut
public import Idealize.ShloMosaic.Adequacy
public import Idealize.ShloMosaic.Init
public import Idealize.ShloMosaic.Lib.Quiescent

@[expose] public section

noncomputable section

namespace Cert.Proof

open Idealize.ShloMosaic Idealize.SL.Sem

/-- The precondition states nothing on the side. -/
theorem precondition_facts : Cert.Pre_every_token_is_a_boundary.Facts := {}

/-- The reference runs, keeps its arguments and ends quiescent: it declares no semaphore. -/
theorem quiescent_reference : quiescent_ReferenceIdeal := fun m ρ _ =>
  (θ_run Cert.ReferenceIdeal.defs _ _).mono (fun r h => ⟨fun c => (h c).2, sem_eq_zero_of_no_sems (by decide) r.2⟩)
    (Cert.Ema.reference_run m ρ)

/-- From equal arguments, every token a boundary, the kernel's result is the reference's. -/
theorem results_equal : algebraic_KernelIdeal_ReferenceIdeal_pre_every_token_is_a_boundary
    (hPre_every_token_is_a_boundary := precondition_facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.Ema.reference_run m' ρ')
  obtain ⟨h0, h1, h2⟩ := hagree c
  funext i
  obtain ⟨b, t, d, rfl⟩ : ∃ (b : Fin 8) (t : Fin 4096) (d : Fin 1024), i = ix3 b t d := ⟨i 0, i 1, i 2, by
    funext a
    match a with
    | ⟨0, _⟩ => rfl
    | ⟨1, _⟩ => rfl
    | ⟨2, _⟩ => rfl⟩
  refine (Cert.Ema.final_value m' c (h1.trans (hpre c)) b t d).trans ?_
  rw [h0, h2]
  exact (Cert.Ema.kernel_value m c b t d).symm

/-- Every claim of the certificate. -/
theorem claim : Cert.Claim := ⟨Cert.Kernel.Gen.facts, Cert.KernelIdeal.Gen.facts, Cert.ReferenceIdeal.Gen.facts, precondition_facts,
  fun m ρ _ => Cert.Kernel.Gen.frame m ρ, fun m ρ _ => Cert.KernelIdeal.Gen.frame m ρ, fun m ρ _ => Cert.KernelIdeal.Gen.frame m ρ,
  quiescent_reference, fun m ρ _ => quiescent_reference m ρ trivial, (trivial : preserves_Kernel_KernelIdeal), results_equal⟩

end Cert.Proof

end
